-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x192x224x224 : Shape := ⟨4, ![8, 192, 224, 224]⟩
abbrev S225x224x224 : Shape := ⟨3, ![225, 224, 224]⟩
abbrev S1x192 : Shape := ⟨2, ![1, 192]⟩
abbrev S6 : Shape := ⟨1, ![6]⟩
abbrev S_ : Shape := ⟨0, ![]⟩
abbrev S1x224x224 : Shape := ⟨3, ![1, 224, 224]⟩
abbrev S1 : Shape := ⟨1, ![1]⟩
abbrev S32x224x224 : Shape := ⟨3, ![32, 224, 224]⟩
abbrev S1x32x224x224 : Shape := ⟨4, ![1, 32, 224, 224]⟩
abbrev S32 : Shape := ⟨1, ![32]⟩
abbrev S1x32 : Shape := ⟨2, ![1, 32]⟩
abbrev S1x1x192 : Shape := ⟨3, ![1, 1, 192]⟩
abbrev S1x192x1 : Shape := ⟨3, ![1, 192, 1]⟩
abbrev S1x192x192 : Shape := ⟨3, ![1, 192, 192]⟩
abbrev S1x1 : Shape := ⟨2, ![1, 1]⟩
abbrev S1x1x224x224 : Shape := ⟨4, ![1, 1, 224, 224]⟩

abbrev nBuf : Space → Nat
  | .hbm => 2
  | .vmem => 3
  | .smem => 1
  | _ => 0

abbrev bufTy : (tb : Table) → Fin (tcTables nBuf tb) → BufTy
  | .hbm, ⟨0, _⟩ => ⟨S8x192x224x224, .f32⟩
  | .hbm, ⟨1, _⟩ => ⟨S8x192x224x224, .f32⟩
  | .local _ .vmem, ⟨0, _⟩ => ⟨S225x224x224, .f32⟩
  | .local _ .vmem, ⟨1, _⟩ => ⟨S1x192, .f32⟩
  | .local _ .vmem, ⟨2, _⟩ => ⟨S1x192, .i32⟩
  | .local _ .smem, ⟨0, _⟩ => ⟨S1x192, .i32⟩
  | _, _ => ⟨S8x192x224x224, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.smem, 0, rfl⟩

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 3 → Nat :=
  let c0_i32_216 : BitVec 32 := 0#32
  let c7_i32_217 : BitVec 32 := 7#32
  let v295 : BitVec 32 := Scalar.remsi c0_i32_216 c7_i32_217
  let c32_i32_218 : BitVec 32 := 32#32
  let v296 : BitVec 32 := Scalar.muli v295 c32_i32_218
  let c0_i32_221 : BitVec 32 := 0#32
  let c0_i32_222 : BitVec 32 := 0#32
  ![v296.toNat, 0, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off2 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off3 (i : grid0.Coords) (c1_i32 : BitVec 32) : Fin 3 → Nat :=
  let arg0 : BitVec 32 := BitVec.ofNat 32 (i 0).val
  let c6_i32 : BitVec 32 := 6#32
  let v6 : BitVec 32 := Scalar.muli arg0 c6_i32
  let v7 : BitVec 32 := Scalar.addi v6 c1_i32
  let c7_i32 : BitVec 32 := 7#32
  let v8 : BitVec 32 := Scalar.remsi v7 c7_i32
  let c32_i32 : BitVec 32 := 32#32
  let v9 : BitVec 32 := Scalar.muli v8 c32_i32
  let c0_i32_4 : BitVec 32 := 0#32
  let c0_i32_5 : BitVec 32 := 0#32
  ![v9.toNat, 0, 0]
def k0_off4 (i : grid0.Coords) : Fin 4 → Nat :=
  let arg0 : BitVec 32 := BitVec.ofNat 32 (i 0).val
  let c32_i32_6 : BitVec 32 := 32#32
  let c0_i32_7 : BitVec 32 := 0#32
  let c0_i32_8 : BitVec 32 := 0#32
  ![arg0.toNat, 32, 0, 0]
def k0_cond3 (i : grid0.Coords) : BitVec 1 :=
  let arg0 : BitVec 32 := BitVec.ofNat 32 (i 0).val
  let c0_i32_9 : BitVec 32 := 0#32
  let v15 : BitVec 1 := Scalar.cmpi .sgt arg0 c0_i32_9
  let v16 : BitVec 32 := Scalar.extui v15
  let c0_i32_10 : BitVec 32 := 0#32
  let v17 : BitVec 1 := Scalar.cmpi .ne v16 c0_i32_10
  v17

def k0_off5 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off6 (i : grid0.Coords) : Fin 4 → Nat :=
  let arg0 : BitVec 32 := BitVec.ofNat 32 (i 0).val
  let c64_i32 : BitVec 32 := 64#32
  let c0_i32_17 : BitVec 32 := 0#32
  let c0_i32_18 : BitVec 32 := 0#32
  ![arg0.toNat, 64, 0, 0]
def k0_cond4 (i : grid0.Coords) : BitVec 1 :=
  let arg0 : BitVec 32 := BitVec.ofNat 32 (i 0).val
  let c0_i32_19 : BitVec 32 := 0#32
  let v27 : BitVec 1 := Scalar.cmpi .sgt arg0 c0_i32_19
  let v28 : BitVec 32 := Scalar.extui v27
  let c0_i32_20 : BitVec 32 := 0#32
  let v29 : BitVec 1 := Scalar.cmpi .ne v28 c0_i32_20
  v29

def k0_off7 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off8 (i : grid0.Coords) : Fin 4 → Nat :=
  let arg0 : BitVec 32 := BitVec.ofNat 32 (i 0).val
  let c96_i32 : BitVec 32 := 96#32
  let c0_i32_27 : BitVec 32 := 0#32
  let c0_i32_28 : BitVec 32 := 0#32
  ![arg0.toNat, 96, 0, 0]
def k0_cond5 (i : grid0.Coords) : BitVec 1 :=
  let arg0 : BitVec 32 := BitVec.ofNat 32 (i 0).val
  let c0_i32_29 : BitVec 32 := 0#32
  let v39 : BitVec 1 := Scalar.cmpi .sgt arg0 c0_i32_29
  let v40 : BitVec 32 := Scalar.extui v39
  let c0_i32_30 : BitVec 32 := 0#32
  let v41 : BitVec 1 := Scalar.cmpi .ne v40 c0_i32_30
  v41

def k0_off9 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off10 (i : grid0.Coords) : Fin 4 → Nat :=
  let arg0 : BitVec 32 := BitVec.ofNat 32 (i 0).val
  let c128_i32 : BitVec 32 := 128#32
  let c0_i32_37 : BitVec 32 := 0#32
  let c0_i32_38 : BitVec 32 := 0#32
  ![arg0.toNat, 128, 0, 0]
def k0_cond6 (i : grid0.Coords) : BitVec 1 :=
  let arg0 : BitVec 32 := BitVec.ofNat 32 (i 0).val
  let c0_i32_39 : BitVec 32 := 0#32
  let v51 : BitVec 1 := Scalar.cmpi .sgt arg0 c0_i32_39
  let v52 : BitVec 32 := Scalar.extui v51
  let c0_i32_40 : BitVec 32 := 0#32
  let v53 : BitVec 1 := Scalar.cmpi .ne v52 c0_i32_40
  v53

def k0_off11 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off12 (i : grid0.Coords) : Fin 4 → Nat :=
  let arg0 : BitVec 32 := BitVec.ofNat 32 (i 0).val
  let c160_i32 : BitVec 32 := 160#32
  let c0_i32_47 : BitVec 32 := 0#32
  let c0_i32_48 : BitVec 32 := 0#32
  ![arg0.toNat, 160, 0, 0]
def k0_off13 (i : grid0.Coords) : Fin 4 → Nat :=
  let arg0 : BitVec 32 := BitVec.ofNat 32 (i 0).val
  let c0_i32_56 : BitVec 32 := 0#32
  let c0_i32_57 : BitVec 32 := 0#32
  let c0_i32_58 : BitVec 32 := 0#32
  ![arg0.toNat, 0, 0, 0]
def k0_off14 (i : grid0.Coords) (c0_i32_60 : BitVec 32) : Fin 3 → Nat :=
  let arg0 : BitVec 32 := BitVec.ofNat 32 (i 0).val
  let c6_i32_59 : BitVec 32 := 6#32
  let v72 : BitVec 32 := Scalar.muli arg0 c6_i32_59
  let v73 : BitVec 32 := Scalar.addi v72 c0_i32_60
  let c7_i32_61 : BitVec 32 := 7#32
  let v74 : BitVec 32 := Scalar.remsi v73 c7_i32_61
  let c32_i32_62 : BitVec 32 := 32#32
  let v75 : BitVec 32 := Scalar.muli v74 c32_i32_62
  let v76 : Index := Scalar.indexCast v75
  let c0 : Index := 0#32
  let c0_63 : Index := 0#32
  ![v76.toNat, 0, 0]
@[reducible] def k0_t1_loop : Scf.Loop 32 :=
  let c0_i32_206 : BitVec 32 := 0#32
  let c192_i32 : BitVec 32 := 192#32
  let v284 : BitVec 32 := Scalar.addi c0_i32_206 c192_i32
  let c1_i32_207 : BitVec 32 := 1#32
  ⟨c0_i32_206, v284, c1_i32_207⟩
def k0_off15 (k0_t1 : Fin k0_t1_loop.trips) : Fin 2 → Nat :=
  let c0_213 : Index := 0#32
  let c0_i32_206 : BitVec 32 := 0#32
  let c1_i32_207 : BitVec 32 := 1#32
  let arg10 : BitVec 32 := Scf.iv c0_i32_206 c1_i32_207 k0_t1
  let v291 : Index := Scalar.indexCast arg10
  ![0, v291.toNat]
def k0_off16 (k0_t1 : Fin k0_t1_loop.trips) : Fin 1 → Nat :=
  let c0_i32_206 : BitVec 32 := 0#32
  let c1_i32_207 : BitVec 32 := 1#32
  let arg10 : BitVec 32 := Scf.iv c0_i32_206 c1_i32_207 k0_t1
  let c0_i32_215 : BitVec 32 := 0#32
  let v294 : BitVec 1 := Scalar.cmpi .sgt arg10 c0_i32_215
  let v295 : BitVec 32 := Scalar.extui v294
  let c0_i32_216 : BitVec 32 := 0#32
  let v296 : BitVec 1 := Scalar.cmpi .slt arg10 c0_i32_216
  let v297 : BitVec 32 := Scalar.extui v296
  let v298 : BitVec 32 := Scalar.subi v295 v297
  let c32_i32_214 : BitVec 32 := 32#32
  let c0_i32_217 : BitVec 32 := 0#32
  let v299 : BitVec 1 := Scalar.cmpi .sgt c32_i32_214 c0_i32_217
  let v300 : BitVec 32 := Scalar.extui v299
  let c0_i32_218 : BitVec 32 := 0#32
  let v301 : BitVec 1 := Scalar.cmpi .slt c32_i32_214 c0_i32_218
  let v302 : BitVec 32 := Scalar.extui v301
  let v303 : BitVec 32 := Scalar.subi v300 v302
  let v304 : BitVec 1 := Scalar.cmpi .ne v298 v303
  let v305 : BitVec 32 := Scalar.remsi arg10 c32_i32_214
  let c0_i32_219 : BitVec 32 := 0#32
  let v306 : BitVec 1 := Scalar.cmpi .ne v305 c0_i32_219
  let v307 : BitVec 1 := Scalar.andi v304 v306
  let v293 : BitVec 32 := Scalar.divsi arg10 c32_i32_214
  let c1_i32_220 : BitVec 32 := 1#32
  let v308 : BitVec 32 := Scalar.subi v293 c1_i32_220
  let v309 : BitVec 32 := Scalar.select v307 v308 v293
  ![v309.toNat]
def k0_off17 (i : grid0.Coords) (k0_t1 : Fin k0_t1_loop.trips) : Fin 4 → Nat :=
  let arg0 : BitVec 32 := BitVec.ofNat 32 (i 0).val
  let c0_i32_206 : BitVec 32 := 0#32
  let c1_i32_207 : BitVec 32 := 1#32
  let arg10 : BitVec 32 := Scf.iv c0_i32_206 c1_i32_207 k0_t1
  let c0_i32_221 : BitVec 32 := 0#32
  let c0_i32_222 : BitVec 32 := 0#32
  ![arg0.toNat, arg10.toNat, 0, 0]
def k0_off18 (v292 : BitVec 32) : Fin 3 → Nat :=
  let c0_i32_223 : BitVec 32 := 0#32
  let c0_i32_224 : BitVec 32 := 0#32
  ![v292.toNat, 0, 0]

def k0_chk1 (v292 : BitVec 32) : Prop :=
  (∀ a, (k0_off18 v292) a + S1x224x224.size a ≤ S225x224x224.size a)
theorem k0_off18_inb : ∀ (v292 : BitVec 32) (k0_hw1 : k0_chk1 v292), ∀ a, (k0_off18 v292) a + S1x224x224.size a ≤ S225x224x224.size a := fun v292 k0_hw1 => k0_hw1

def k0_cond7 (i : grid0.Coords) : BitVec 1 :=
  let arg0 : BitVec 32 := BitVec.ofNat 32 (i 0).val
  let c7_i32_209 : BitVec 32 := 7#32
  let v285 : BitVec 1 := Scalar.cmpi .slt arg0 c7_i32_209
  let v286 : BitVec 32 := Scalar.extui v285
  let c0_i32_210 : BitVec 32 := 0#32
  let v287 : BitVec 1 := Scalar.cmpi .ne v286 c0_i32_210
  v287

def k0_off19 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
def k0_off20 (i : grid0.Coords) : Fin 3 → Nat :=
  let arg0 : BitVec 32 := BitVec.ofNat 32 (i 0).val
  let c1_i32_220 : BitVec 32 := 1#32
  let v296 : BitVec 32 := Scalar.addi arg0 c1_i32_220
  let c6_i32_221 : BitVec 32 := 6#32
  let v297 : BitVec 32 := Scalar.muli v296 c6_i32_221
  let c0_i32_222 : BitVec 32 := 0#32
  let v298 : BitVec 32 := Scalar.addi v297 c0_i32_222
  let c7_i32_223 : BitVec 32 := 7#32
  let v299 : BitVec 32 := Scalar.remsi v298 c7_i32_223
  let c32_i32_224 : BitVec 32 := 32#32
  let v300 : BitVec 32 := Scalar.muli v299 c32_i32_224
  let c0_i32_226 : BitVec 32 := 0#32
  let c0_i32_227 : BitVec 32 := 0#32
  ![v300.toNat, 0, 0]
def k0_off21 (i : grid0.Coords) : Fin 4 → Nat :=
  let arg0 : BitVec 32 := BitVec.ofNat 32 (i 0).val
  let c1_i32_220 : BitVec 32 := 1#32
  let v296 : BitVec 32 := Scalar.addi arg0 c1_i32_220
  let c0_i32_228 : BitVec 32 := 0#32
  let c0_i32_229 : BitVec 32 := 0#32
  let c0_i32_230 : BitVec 32 := 0#32
  ![v296.toNat, 0, 0, 0]
def k0_cond8 (i : grid0.Coords) : BitVec 1 :=
  let arg0 : BitVec 32 := BitVec.ofNat 32 (i 0).val
  let c7_i32_211 : BitVec 32 := 7#32
  let v288 : BitVec 1 := Scalar.cmpi .eq arg0 c7_i32_211
  let v289 : BitVec 32 := Scalar.extui v288
  let c0_i32_212 : BitVec 32 := 0#32
  let v290 : BitVec 1 := Scalar.cmpi .ne v289 c0_i32_212
  v290

def k0_off22 (i : grid0.Coords) : Fin 4 → Nat :=
  let arg0 : BitVec 32 := BitVec.ofNat 32 (i 0).val
  let c0_i32_214 : BitVec 32 := 0#32
  let c0_i32_215 : BitVec 32 := 0#32
  let c0_i32_216 : BitVec 32 := 0#32
  ![arg0.toNat, 0, 0, 0]
-- ==== ReferenceIdeal.lean ====
abbrev S8x192x224x224 : Shape := ⟨4, ![8, 192, 224, 224]⟩
abbrev S8x192x50176 : Shape := ⟨3, ![8, 192, 50176]⟩
abbrev S_ : Shape := ⟨0, ![]⟩
abbrev S8x192 : Shape := ⟨2, ![8, 192]⟩
abbrev S8x96 : Shape := ⟨2, ![8, 96]⟩
abbrev S8 : Shape := ⟨1, ![8]⟩
abbrev S8x1 : Shape := ⟨2, ![8, 1]⟩
abbrev S8x96x1 : Shape := ⟨3, ![8, 96, 1]⟩
abbrev S8x96x2 : Shape := ⟨3, ![8, 96, 2]⟩
abbrev S8x192x1 : Shape := ⟨3, ![8, 192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S8x192x50176, .f32⟩
  | .hbm, ⟨2, _⟩ => ⟨S_, .f32⟩
  | .hbm, ⟨3, _⟩ => ⟨S8x192, .f32⟩
  | .hbm, ⟨4, _⟩ => ⟨S8x96, .f32⟩
  | .hbm, ⟨5, _⟩ => ⟨S8x96, .i32⟩
  | .hbm, ⟨6, _⟩ => ⟨S_, .f32⟩
  | .hbm, ⟨7, _⟩ => ⟨S8x192, .f32⟩
  | .hbm, ⟨8, _⟩ => ⟨S8, .i32⟩
  | .hbm, ⟨9, _⟩ => ⟨S8x1, .i32⟩
  | .hbm, ⟨10, _⟩ => ⟨S_, .i32⟩
  | .hbm, ⟨11, _⟩ => ⟨S8x1, .i32⟩
  | .hbm, ⟨12, _⟩ => ⟨S8x1, .i1⟩
  | .hbm, ⟨13, _⟩ => ⟨S_, .i32⟩
  | .hbm, ⟨14, _⟩ => ⟨S8x1, .i32⟩
  | .hbm, ⟨15, _⟩ => ⟨S8x1, .i32⟩
  | .hbm, ⟨16, _⟩ => ⟨S8x1, .i32⟩
  | .hbm, ⟨17, _⟩ => ⟨S_, .i32⟩
  | .hbm, ⟨18, _⟩ => ⟨S8x96, .i32⟩
  | .hbm, ⟨19, _⟩ => ⟨S8x96, .i1⟩
  | .hbm, ⟨20, _⟩ => ⟨S_, .i32⟩
  | .hbm, ⟨21, _⟩ => ⟨S8x96, .i32⟩
  | .hbm, ⟨22, _⟩ => ⟨S8x96, .i32⟩
  | .hbm, ⟨23, _⟩ => ⟨S8x96, .i32⟩
  | .hbm, ⟨24, _⟩ => ⟨S8x96, .i32⟩
  | .hbm, ⟨25, _⟩ => ⟨S8x96x1, .i32⟩
  | .hbm, ⟨26, _⟩ => ⟨S8x96x1, .i32⟩
  | .hbm, ⟨27, _⟩ => ⟨S8x96x2, .i32⟩
  | .hbm, ⟨28, _⟩ => ⟨S_, .f32⟩
  | .hbm, ⟨29, _⟩ => ⟨S8x96, .f32⟩
  | .hbm, ⟨30, _⟩ => ⟨S8x192, .f32⟩
  | .hbm, ⟨31, _⟩ => ⟨S8x192x1, .f32⟩
  | .hbm, ⟨32, _⟩ => ⟨S8x192x50176, .f32⟩
  | .hbm, ⟨33, _⟩ => ⟨S8x192x224x224, .f32⟩
  | .hbm, ⟨34, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Hand.Geo.lean ====
/-
  Where the windows the kernel moves lie: the 32-channel windows of `x` and of the result, their single planes, the
  32-plane slots of the accumulator and its single planes. For each, the elements it covers and the element under an
  index of it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.ShloMosaic.ValueIdx

/-- The elements of `x` (or of the result) of image `b` and channels `lo … lo + n - 1`. -/
def sX (b lo n : ℕ) : Finset S8x192x224x224.Idx :=
  Finset.univ.filter fun j => (j 0).val = b ∧ lo ≤ (j 1).val ∧ (j 1).val < lo + n

/-- The elements of the accumulator's planes `lo … lo + n - 1`. -/
def sA (lo n : ℕ) : Finset S225x224x224.Idx :=
  Finset.univ.filter fun j => lo ≤ (j 0).val ∧ (j 0).val < lo + n

/-- When an element is in a window of channels. -/
theorem mem_sX {b lo n : ℕ} {j : S8x192x224x224.Idx} :
    j ∈ sX b lo n ↔ (j 0).val = b ∧ lo ≤ (j 1).val ∧ (j 1).val < lo + n := by simp [sX]

/-- When an element is in a run of planes of the accumulator. -/
theorem mem_sA {lo n : ℕ} {j : S225x224x224.Idx} : j ∈ sA lo n ↔ lo ≤ (j 0).val ∧ (j 0).val < lo + n := by simp [sA]

/-- `x`, the result and the accumulator, whole. -/
abbrev mX : Memref sig .tc .hbm S8x192x224x224 .f32 := Memref.whole main_arg0
abbrev mO : Memref sig .tc .hbm S8x192x224x224 .f32 := Memref.whole main_v0
abbrev mA : Memref sig .tc .vmem S225x224x224 .f32 := Memref.whole cc0_scratch0
abbrev mM : Memref sig .tc .vmem S1x192 .f32 := Memref.whole cc0_scratch1
abbrev mS : Memref sig .tc .vmem S1x192 .i32 := Memref.whole cc0_scratch2
abbrev mR : Memref sig .tc .smem S1x192 .i32 := Memref.whole cc0_scratch3

/-- A 32-channel window of an `[8, 192, 224, 224]` array. -/
abbrev winX (M : Memref sig .tc .hbm S8x192x224x224 .f32) (off : Fin 4 → ℕ) (h : ∀ a, off a + S1x32x224x224.size a ≤ S8x192x224x224.size a) :
    Memref sig .tc .hbm S32x224x224 .f32 :=
  (M.slice (Rect.unit (s := S8x192x224x224) off S1x32x224x224.size h) (fun _ => rfl)).squeeze S32x224x224 squeezes_S1x32x224x224_S32x224x224

/-- One plane of an `[8, 192, 224, 224]` array. -/
abbrev plX (M : Memref sig .tc .hbm S8x192x224x224 .f32) (off : Fin 4 → ℕ) (h : ∀ a, off a + S1x1x224x224.size a ≤ S8x192x224x224.size a) :
    Memref sig .tc .hbm S1x224x224 .f32 :=
  (M.slice (Rect.unit (s := S8x192x224x224) off S1x1x224x224.size h) (fun _ => rfl)).squeeze S1x224x224 squeezes_S1x1x224x224_S1x224x224

/-- A 32-plane slot of the accumulator. -/
abbrev winA (off : Fin 3 → ℕ) (h : ∀ a, off a + S32x224x224.size a ≤ S225x224x224.size a) : Memref sig .tc .vmem S32x224x224 .f32 :=
  mA.slice (Rect.unit (s := S225x224x224) off S32x224x224.size h) (fun _ => rfl)

/-- One plane of the accumulator. -/
abbrev plA (off : Fin 3 → ℕ) (h : ∀ a, off a + S1x224x224.size a ≤ S225x224x224.size a) : Memref sig .tc .vmem S1x224x224 .f32 :=
  mA.slice (Rect.unit (s := S225x224x224) off S1x224x224.size h) (fun _ => rfl)

/-- The element of the accumulator under index `k` of a slot at plane `lo`. -/
theorem winA_emb {lo : ℕ} {off : Fin 3 → ℕ} (ho : off = ![lo, 0, 0]) (h) (k : S32x224x224.Idx) :
    (((winA off h).view.emb k : S225x224x224.Idx) 0).val = lo + (k 0).val
      ∧ ((winA off h).view.emb k : S225x224x224.Idx) 1 = k 1 ∧ ((winA off h).view.emb k : S225x224x224.Idx) 2 = k 2 := by
  subst ho
  refine ⟨?_, Fin.ext ?_, Fin.ext ?_⟩
  · show lo + 1 * (k 0).val = lo + (k 0).val; omega
  · show 0 + 1 * (k 1).val = (k 1).val; omega
  · show 0 + 1 * (k 2).val = (k 2).val; omega

/-- The element of the accumulator under index `k` of plane `p`. -/
theorem plA_emb {p : ℕ} {off : Fin 3 → ℕ} (ho : off = ![p, 0, 0]) (h) (k : S1x224x224.Idx) :
    (((plA off h).view.emb k : S225x224x224.Idx) 0).val = p
      ∧ ((plA off h).view.emb k : S225x224x224.Idx) 1 = k 1 ∧ ((plA off h).view.emb k : S225x224x224.Idx) 2 = k 2 := by
  subst ho
  refine ⟨?_, Fin.ext ?_, Fin.ext ?_⟩
  · show p + 1 * (k 0).val = p
    have hk : (k 0).val < 1 := (k 0).isLt
    omega
  · show 0 + 1 * (k 1).val = (k 1).val; omega
  · show 0 + 1 * (k 2).val = (k 2).val; omega

/-- The element of `x` under index `k` of the window of image `b` at channel `lo`. -/
theorem winX_emb_x {b lo : ℕ} {off : Fin 4 → ℕ} (ho : off = ![b, lo, 0, 0]) (h) (k : S32x224x224.Idx) :
    (((winX mX off h).view.emb k : S8x192x224x224.Idx) 0).val = b
      ∧ (((winX mX off h).view.emb k : S8x192x224x224.Idx) 1).val = lo + (k 0).val
      ∧ ((winX mX off h).view.emb k : S8x192x224x224.Idx) 2 = k 1 ∧ ((winX mX off h).view.emb k : S8x192x224x224.Idx) 3 = k 2 := by
  subst ho
  have e : Shape.reshapeEquiv squeezes_S1x32x224x224_S32x224x224.numel_eq k = ix4 (⟨0, Nat.one_pos⟩ : Fin 1) (k 0 : Fin 32) (k 1 : Fin 224) (k 2 : Fin 224) := by
    conv_lhs => rw [eq_ix3 (n0 := 32) (n1 := 224) (n2 := 224) k]
    exact reshapeEquiv_ix3_1abc _ _ _ _
  have e2 : ∀ a : Fin 4, (((winX mX ![b, lo, 0, 0] h).view.emb k : S8x192x224x224.Idx) a).val
      = (![b, lo, 0, 0] : Fin 4 → ℕ) a + 1 * ((Shape.reshapeEquiv squeezes_S1x32x224x224_S32x224x224.numel_eq k : S1x32x224x224.Idx) a).val := fun a => rfl
  refine ⟨?_, ?_, Fin.ext ?_, Fin.ext ?_⟩
  · rw [e2, e]; show b + 1 * 0 = b; omega
  · rw [e2, e]; show lo + 1 * (k 0).val = _; omega
  · rw [e2, e]; show 0 + 1 * (k 1).val = _; omega
  · rw [e2, e]; show 0 + 1 * (k 2).val = _; omega

/-- The element of the result under index `k` of plane `ch` of image `b`. -/
theorem plX_emb {b ch : ℕ} {off : Fin 4 → ℕ} (ho : off = ![b, ch, 0, 0]) (h) (k : S1x224x224.Idx) :
    (((plX mO off h).view.emb k : S8x192x224x224.Idx) 0).val = b
      ∧ (((plX mO off h).view.emb k : S8x192x224x224.Idx) 1).val = ch
      ∧ ((plX mO off h).view.emb k : S8x192x224x224.Idx) 2 = k 1 ∧ ((plX mO off h).view.emb k : S8x192x224x224.Idx) 3 = k 2 := by
  subst ho
  have e : Shape.reshapeEquiv squeezes_S1x1x224x224_S1x224x224.numel_eq k = ix4 (⟨0, Nat.one_pos⟩ : Fin 1) (k 0 : Fin 1) (k 1 : Fin 224) (k 2 : Fin 224) := by
    conv_lhs => rw [eq_ix3 (n0 := 1) (n1 := 224) (n2 := 224) k]
    exact reshapeEquiv_ix3_1abc _ _ _ _
  have e2 : ∀ a : Fin 4, (((plX mO ![b, ch, 0, 0] h).view.emb k : S8x192x224x224.Idx) a).val
      = (![b, ch, 0, 0] : Fin 4 → ℕ) a + 1 * ((Shape.reshapeEquiv squeezes_S1x1x224x224_S1x224x224.numel_eq k : S1x1x224x224.Idx) a).val := fun a => rfl
  have hk : (k 0).val < 1 := (k 0).isLt
  refine ⟨?_, ?_, Fin.ext ?_, Fin.ext ?_⟩
  · rw [e2, e]; show b + 1 * 0 = b; omega
  · rw [e2, e]; show ch + 1 * (k 0).val = _; omega
  · rw [e2, e]; show 0 + 1 * (k 1).val = _; omega
  · rw [e2, e]; show 0 + 1 * (k 2).val = _; omega

/-- A slot at plane `lo` covers planes `lo … lo + 31`. -/
theorem winA_set {lo : ℕ} {off : Fin 3 → ℕ} (ho : off = ![lo, 0, 0]) (h) : (winA off h).view.set = sA lo 32 := by
  show (winA off h).view.set = (sA lo 32 : Finset S225x224x224.Idx)
  rw [show (winA off h).view.set = (Rect.unit (s := S225x224x224) off S32x224x224.size h).set from View.set_slice_whole _ _]
  subst ho
  ext j
  rw [Rect.mem_set_unit, mem_sA]
  constructor
  · intro hj; exact hj 0
  · intro hj a
    match a with
    | ⟨0, _⟩ => exact hj
    | ⟨1, _⟩ => exact ⟨Nat.zero_le _, by have := (j 1).isLt; exact (Nat.zero_add _).symm ▸ this⟩
    | ⟨2, _⟩ => exact ⟨Nat.zero_le _, by have := (j 2).isLt; exact (Nat.zero_add _).symm ▸ this⟩

/-- Plane `p` of the accumulator covers plane `p`. -/
theorem plA_set {p : ℕ} {off : Fin 3 → ℕ} (ho : off = ![p, 0, 0]) (h) : (plA off h).view.set = sA p 1 := by
  show (plA off h).view.set = (sA p 1 : Finset S225x224x224.Idx)
  rw [show (plA off h).view.set = (Rect.unit (s := S225x224x224) off S1x224x224.size h).set from View.set_slice_whole _ _]
  subst ho
  ext j
  rw [Rect.mem_set_unit, mem_sA]
  constructor
  · intro hj; exact hj 0
  · intro hj a
    match a with
    | ⟨0, _⟩ => exact hj
    | ⟨1, _⟩ => exact ⟨Nat.zero_le _, by have := (j 1).isLt; exact (Nat.zero_add _).symm ▸ this⟩
    | ⟨2, _⟩ => exact ⟨Nat.zero_le _, by have := (j 2).isLt; exact (Nat.zero_add _).symm ▸ this⟩

/-- A window of `x` at image `b`, channel `lo` covers channels `lo … lo + 31` of image `b`. -/
theorem winX_set {b lo : ℕ} {off : Fin 4 → ℕ} (ho : off = ![b, lo, 0, 0]) (h) : (winX mX off h).view.set = sX b lo 32 := by
  show (winX mX off h).view.set = (sX b lo 32 : Finset S8x192x224x224.Idx)
  rw [show (winX mX off h).view.set = (Rect.unit (s := S8x192x224x224) off S1x32x224x224.size h).set from
    (View.set_reshape _ _).trans (View.set_slice_whole _ _)]
  subst ho
  ext j
  rw [Rect.mem_set_unit, mem_sX]
  constructor
  · intro hj
    have h0 : b ≤ (j 0).val ∧ (j 0).val < b + 1 := hj 0
    have h1 : lo ≤ (j 1).val ∧ (j 1).val < lo + 32 := hj 1
    omega
  · intro hj a
    match a with
    | ⟨0, _⟩ => show b ≤ (j 0).val ∧ (j 0).val < b + 1; omega
    | ⟨1, _⟩ => exact hj.2
    | ⟨2, _⟩ => exact ⟨Nat.zero_le _, by have := (j 2).isLt; exact (Nat.zero_add _).symm ▸ this⟩
    | ⟨3, _⟩ => exact ⟨Nat.zero_le _, by have := (j 3).isLt; exact (Nat.zero_add _).symm ▸ this⟩

/-- Plane `ch` of image `b` of the result covers channel `ch` of image `b`. -/
theorem plX_set {b ch : ℕ} {off : Fin 4 → ℕ} (ho : off = ![b, ch, 0, 0]) (h) : (plX mO off h).view.set = sX b ch 1 := by
  show (plX mO off h).view.set = (sX b ch 1 : Finset S8x192x224x224.Idx)
  rw [show (plX mO off h).view.set = (Rect.unit (s := S8x192x224x224) off S1x1x224x224.size h).set from
    (View.set_reshape _ _).trans (View.set_slice_whole _ _)]
  subst ho
  ext j
  rw [Rect.mem_set_unit, mem_sX]
  constructor
  · intro hj
    have h0 : b ≤ (j 0).val ∧ (j 0).val < b + 1 := hj 0
    have h1 : ch ≤ (j 1).val ∧ (j 1).val < ch + 1 := hj 1
    omega
  · intro hj a
    match a with
    | ⟨0, _⟩ => show b ≤ (j 0).val ∧ (j 0).val < b + 1; omega
    | ⟨1, _⟩ => exact hj.2
    | ⟨2, _⟩ => exact ⟨Nat.zero_le _, by have := (j 2).isLt; exact (Nat.zero_add _).symm ▸ this⟩
    | ⟨3, _⟩ => exact ⟨Nat.zero_le _, by have := (j 3).isLt; exact (Nat.zero_add _).symm ▸ this⟩

/-! ## How the sets split -/

/-- Two runs of planes apart share no element; -/
theorem sA_disjoint {lo n lo' n' : ℕ} (h : lo + n ≤ lo' ∨ lo' + n' ≤ lo) : Disjoint (sA lo n) (sA lo' n') :=
  Finset.disjoint_left.mpr fun j hj hj' => by rw [mem_sA] at hj hj'; omega

/-- two runs one after the other join. -/
theorem sA_union (lo n n' : ℕ) : sA lo n ∪ sA (lo + n) n' = sA lo (n + n') := by
  ext j; rw [Finset.mem_union, mem_sA, mem_sA, mem_sA]; omega

/-- All 225 planes are the accumulator. -/
theorem sA_univ : sA 0 225 = Finset.univ := by
  ext j; rw [mem_sA]; have : (j 0).val < 225 := (j 0).isLt; simp; omega

/-- Channels of different images, or two runs of channels apart, share no element; -/
theorem sX_disjoint {b b' lo n lo' n' : ℕ} (h : b ≠ b' ∨ lo + n ≤ lo' ∨ lo' + n' ≤ lo) : Disjoint (sX b lo n) (sX b' lo' n') :=
  Finset.disjoint_left.mpr fun j hj hj' => by rw [mem_sX] at hj hj'; omega

/-- two runs of channels one after the other join. -/
theorem sX_union (b lo n n' : ℕ) : sX b lo n ∪ sX b (lo + n) n' = sX b lo (n + n') := by
  ext j; rw [Finset.mem_union, mem_sX, mem_sX, mem_sX]; omega

/-- The eight images are the array. -/
theorem sX_univ : (Finset.univ : Finset (Fin 8)).biUnion (fun b => sX b.val 0 192) = Finset.univ := by
  ext j
  have h1 : (j 1).val < 192 := (j 1).isLt
  simp only [Finset.mem_biUnion, Finset.mem_univ, true_and, iff_true]
  exact ⟨(j 0 : Fin 8), mem_sX.mpr ⟨rfl, Nat.zero_le _, by omega⟩⟩

/-- A run of `n` channels is its channels one by one. -/
theorem sX_planes (b lo n : ℕ) : (Finset.univ : Finset (Fin n)).biUnion (fun t => sX b (lo + t.val) 1) = sX b lo n := by
  ext j
  simp only [Finset.mem_biUnion, Finset.mem_univ, true_and, mem_sX]
  constructor
  · rintro ⟨t, h⟩; have := t.isLt; omega
  · rintro h; exact ⟨⟨(j 1).val - lo, by omega⟩, h.1, by simp; omega, by simp; omega⟩

/-- A run of `n` planes is its planes one by one. -/
theorem sA_planes (lo n : ℕ) : (Finset.univ : Finset (Fin n)).biUnion (fun t => sA (lo + t.val) 1) = sA lo n := by
  ext j
  simp only [Finset.mem_biUnion, Finset.mem_univ, true_and, mem_sA]
  constructor
  · rintro ⟨t, h⟩; have := t.isLt; omega
  · rintro h; exact ⟨⟨(j 0).val - lo, by omega⟩, by simp; omega, by simp; omega⟩

/-! ## Semaphores and credits -/

/-- Cell `i` of the semaphores the windows of `x` arrive on. -/
theorem sem_in (i : Fin 6) (off : Fin 1 → ℕ) (ho : off = ![i.val]) (h : ∀ a, off a + S1.size a ≤ S6.size a) :
    ((cc0_scratch4.slice (Rect.unit (s := S6) off S1.size h)).squeeze S_ squeezes_S1_S_).sem
      = (⟨i.val, by have := i.isLt; show i.val < 13; omega⟩ : DmaSem sig) := by
  subst ho
  apply Fin.ext
  show 0 + (S6.rowMajor _ : ℕ) = i.val
  rw [Shape.rowMajor_val_one]
  show 0 + (i.val + 1 * _) = i.val
  have : ∀ j : S1.Idx, (j 0).val = 0 := fun j => by have : (j 0).val < 1 := (j 0).isLt; omega
  rw [this]; omega

/-- Cell `i` of the semaphores the planes of the result are written on. -/
theorem sem_out (i : Fin 6) (off : Fin 1 → ℕ) (ho : off = ![i.val]) (h : ∀ a, off a + S1.size a ≤ S6.size a) :
    ((cc0_scratch5.slice (Rect.unit (s := S6) off S1.size h)).squeeze S_ squeezes_S1_S_).sem
      = (⟨6 + i.val, by have := i.isLt; show 6 + i.val < 13; omega⟩ : DmaSem sig) := by
  subst ho
  apply Fin.ext
  show 6 + (S6.rowMajor _ : ℕ) = 6 + i.val
  rw [Shape.rowMajor_val_one]
  show 6 + (i.val + 1 * _) = 6 + i.val
  have : ∀ j : S1.Idx, (j 0).val = 0 := fun j => by have : (j 0).val < 1 := (j 0).isLt; omega
  rw [this]; omega

/-- The cell of the copy of the source table. -/
theorem sem_src : cc0_scratch6.sem = (⟨12, by decide⟩ : DmaSem sig) := by decide +kernel

/-- Channel `k` is written on cell `k / 32`. -/
theorem off16_eq : ∀ k : Fin k0_t1_loop.trips, k0_off16 k = ![k.val / 32] := by decide +kernel

/-- The credit of one plane of the result, and of one window. -/
abbrev NP : ℕ := sig.dmaCredit .tc (Kind.tc.table .hbm) main_v0.idx S1x224x224 .f32
abbrev NA : ℕ := sig.dmaCredit .tc (Kind.tc.table .vmem) cc0_scratch0.idx S32x224x224 .f32
abbrev NS : ℕ := sig.dmaCredit .tc (Kind.tc.table .smem) cc0_scratch3.idx S1x192 .i32

/-- A window's credit is 32 planes'. -/
theorem cred_chunk : sig.dmaCredit .tc (Kind.tc.table .hbm) main_v0.idx S32x224x224 .f32 = 32 * NP := by decide +kernel
/-- A plane's copy counts for something. -/
theorem NP_pos : 0 < NP := by decide +kernel
/-- So does a window's. -/
theorem NA_pos : 0 < NA := by decide +kernel
/-- So does the table's. -/
theorem NS_pos : 0 < NS := by decide +kernel

end Cert.Kernel.Hand
-- ==== Proof.Hand.Spec.lean ====
/-
  What the kernel computes, as plain functions of `x`: the maxima of the channels of one image, the rank of each
  channel among the 192, the word telling which plane of the accumulator a channel is written from, and the result.
-/
module

public import proofs.«01_k».proof.Proof.Hand.Geo

@[expose] public section

noncomputable section

namespace Cert.Kernel.Hand

open Cert.Kernel Cert.Kernel.Gen
open Idealize.ShloMosaic Idealize.ShloMosaic.TcCoe
open Idealize.ShloMosaic.ValueIdx

variable {F : FTy → Type} [FloatOps F]

/-- Contents of `x` and of the result; of the accumulator. -/
abbrev XT (F : FTy → Type) : Type := S8x192x224x224.Idx → Elt F .f32
abbrev AT (F : FTy → Type) : Type := S225x224x224.Idx → Elt F .f32

/-- The element `(b, ch, h, w)`, with `b` and `ch` brought into range. -/
abbrev ixX (b ch : ℕ) (h w : Fin 224) : S8x192x224x224.Idx :=
  ix4 (⟨b % 8, Nat.mod_lt _ (by norm_num)⟩ : Fin 8) (⟨ch % 192, Nat.mod_lt _ (by norm_num)⟩ : Fin 192) h w

/-- An index of a row of 192, or of 32. -/
abbrev ixC (ch : ℕ) : S1x192.Idx := ix2 (⟨0, by norm_num⟩ : Fin 1) (⟨ch % 192, Nat.mod_lt _ (by norm_num)⟩ : Fin 192)
abbrev ixT (t : ℕ) : S1x32.Idx := ix2 (⟨0, by norm_num⟩ : Fin 1) (⟨t % 32, Nat.mod_lt _ (by norm_num)⟩ : Fin 32)

/-- The window of channels `32 i … 32 i + 31` of image `b`. -/
def chunkV (X : XT F) (b i : ℕ) : Vec F S32x224x224 .f32 := fun k => X (ixX b (32 * i + (k 0).val) (k 1) (k 2))

/-- The maximum of each channel of image `b`. -/
def maxV (X : XT F) (b : ℕ) : Vec F S1x192 .f32 := fun j => k0_pay2 (chunkV X b ((j 1).val / 32)) (ixT ((j 1).val % 32))

/-- The rank of each channel of image `b`. -/
def rankV (X : XT F) (b : ℕ) : IVec S1x192 32 := k0_pay8 (maxV X b)

/-- Whether channel `ch` of image `b` is kept. -/
def sel (X : XT F) (b ch : ℕ) : Bool := (rankV X b (ixC ch)).slt 96#32

/-- The slot of window `i` of image `b`, among the seven. -/
def slot (b i : ℕ) : ℕ := (6 * b + i) % 7

/-- The plane channel `ch` of image `b` is written from. -/
def srcP (X : XT F) (b ch : ℕ) : ℕ := if sel X b ch then 32 * slot b (ch / 32) + ch % 32 else 224

/-- The value of the zero plane. -/
def zeroE : Elt F .f32 := k0_pay1 (F := F) (ix3 (⟨0, by norm_num⟩ : Fin 1) (⟨0, by norm_num⟩ : Fin 224) (⟨0, by norm_num⟩ : Fin 224))

/-- The result: a channel that is kept holds `x`, any other the zero. -/
def resV (X : XT F) : XT F := fun j => if sel X (j 0).val (j 1).val then X j else zeroE

/-- The accumulator while image `b` is in it: plane 224 zero, each slot the window of image `b` it is for. -/
def accV (X : XT F) (b : ℕ) : AT F := fun j =>
  if (j 0).val = 224 then zeroE else X (ixX b (32 * (((j 0).val / 32 + b) % 7) + (j 0).val % 32) (j 1) (j 2))

/-- The plane the kernel clears holds zeros. -/
theorem pay1_eq (j : S1x224x224.Idx) : k0_pay1 (F := F) j = zeroE := by
  unfold zeroE k0_pay1
  rfl

/-- The word for channel `32 c + t` from its rank. -/
def wordOf (arg0 c r : BitVec 32) (t : ℕ) : BitVec 32 :=
  Scalar.select (Scalar.cmpi .slt r 96#32) (Scalar.addi (Scalar.muli (Scalar.remsi (Scalar.addi (Scalar.muli arg0 6#32) c) 7#32) 32#32) (BitVec.ofNat 32 t)) 224#32

/-- The slot number that the kernel computes, as a number. -/
theorem rem_eq : ∀ b : Fin 8, ∀ c : Fin 6, Scalar.muli (Scalar.remsi (Scalar.addi (Scalar.muli (BitVec.ofNat 32 b.val) 6#32) (BitVec.ofNat 32 c.val)) 7#32) 32#32
    = BitVec.ofNat 32 (32 * slot b.val c.val) := by decide +kernel

/-- The word, in range: the plane when the rank is below 96, else the zero plane. -/
theorem wordOf_eq (b : Fin 8) (c : Fin 6) (r : BitVec 32) (t : ℕ) :
    wordOf (BitVec.ofNat 32 b.val) (BitVec.ofNat 32 c.val) r t = BitVec.ofNat 32 (if r.slt 96#32 then 32 * slot b.val c.val + t else 224) := by
  unfold wordOf
  rw [rem_eq]
  show (if BitVec.ofBool (r.slt 96#32) = 1 then _ else _) = _
  cases h : r.slt 96#32
  · simp
  · simp [Scalar.addi, IntOp.addi, BitVec.ofNat_add]

/-- The two reshapings around the stored row cancel. -/
theorem cast_back (v : IVec S1x32 32) : shapeCast S1x32 (shapeCast S32 v shapeCasts_S1x32_S32) shapeCasts_S32_S1x32 = v := by
  funext j
  unfold shapeCast
  show v (Shape.reshapeEquiv _ (Shape.reshapeEquiv _ j)) = v j
  rw [Shape.reshapeEquiv_reshapeEquiv, Shape.reshapeEquiv_self]

/-- The slice of the ranks at window `c`. -/
theorem slice_at (r : IVec S1x192 32) (off : Fin 2 → ℕ) (c : ℕ) (hc : c < 6) (ho : off = ![0, 32 * c]) (h : S1x192.Slices off S1x32) (j : S1x32.Idx) :
    extractStridedSlice S1x32 off r h j = r (ixC (32 * c + (j 1).val)) := by
  subst ho
  unfold extractStridedSlice
  congr 1
  have h1 : (j 1).val < 32 := (j 1).isLt
  have h0 : (j 0).val < 1 := (j 0).isLt
  funext a
  fin_cases a
  · apply Fin.ext; show 0 + (j 0).val = 0; omega
  · apply Fin.ext; show 32 * c + (j 1).val = (32 * c + (j 1).val) % 192; omega

abbrev iotaT : IVec S1x32 32 := iota .tc S1x32 32 [1] iota_S1x32_d1_w32

/-- The lane numbers of a window. -/
theorem iotaT_at (j : S1x32.Idx) : iotaT j = BitVec.ofNat 32 (j 1).val := by
  show BitVec.ofNat 32 (0 * 32 + (j 1).val) = _
  rw [Nat.zero_mul, Nat.zero_add]

/-- The plane numbers stored for window 0. -/
theorem word9 (a : BitVec 32) (v : Vec F S1x192 .f32) (j : S1x32.Idx) : k0_pay9 a v j = wordOf a 0#32 ((k0_pay8 v) (ixC (32 * 0 + (j 1).val))) (j 1).val := by
  unfold k0_pay9 wordOf
  show shapeCast S1x32 (shapeCast S32 _ shapeCasts_S1x32_S32) shapeCasts_S32_S1x32 j = _
  rw [cast_back, ← slice_at (k0_pay8 v) ![0, 0] 0 (by decide) rfl slices_S1x192_o0_0_S1x32 j, ← iotaT_at]
  rfl

/-- The plane numbers stored for window 1. -/
theorem word10 (a : BitVec 32) (r : IVec S1x192 32) (j : S1x32.Idx) : k0_pay10 a r iotaT j = wordOf a 1#32 (r (ixC (32 * 1 + (j 1).val))) (j 1).val := by
  unfold k0_pay10 wordOf
  show shapeCast S1x32 (shapeCast S32 _ shapeCasts_S1x32_S32) shapeCasts_S32_S1x32 j = _
  rw [cast_back, ← slice_at r ![0, 32] 1 (by decide) rfl slices_S1x192_o0_32_S1x32 j, ← iotaT_at]
  rfl

/-- The plane numbers stored for window 2. -/
theorem word11 (a : BitVec 32) (r : IVec S1x192 32) (j : S1x32.Idx) : k0_pay11 a r iotaT j = wordOf a 2#32 (r (ixC (32 * 2 + (j 1).val))) (j 1).val := by
  unfold k0_pay11 wordOf
  show shapeCast S1x32 (shapeCast S32 _ shapeCasts_S1x32_S32) shapeCasts_S32_S1x32 j = _
  rw [cast_back, ← slice_at r ![0, 64] 2 (by decide) rfl slices_S1x192_o0_64_S1x32 j, ← iotaT_at]
  rfl

/-- The plane numbers stored for window 3. -/
theorem word13 (a : BitVec 32) (r : IVec S1x192 32) (j : S1x32.Idx) : k0_pay13 iotaT (k0_pay12 r) (Scalar.remsi (Scalar.addi (Scalar.muli a 6#32) 3#32) 7#32) 32#32 j = wordOf a 3#32 (r (ixC (32 * 3 + (j 1).val))) (j 1).val := by
  unfold k0_pay13 k0_pay12 wordOf
  show shapeCast S1x32 (shapeCast S32 _ shapeCasts_S1x32_S32) shapeCasts_S32_S1x32 j = _
  rw [cast_back, ← slice_at r ![0, 96] 3 (by decide) rfl slices_S1x192_o0_96_S1x32 j, ← iotaT_at]
  rfl

/-- The plane numbers stored for window 4. -/
theorem word14 (a : BitVec 32) (r : IVec S1x192 32) (j : S1x32.Idx) : k0_pay14 a r iotaT j = wordOf a 4#32 (r (ixC (32 * 4 + (j 1).val))) (j 1).val := by
  unfold k0_pay14 wordOf
  show shapeCast S1x32 (shapeCast S32 _ shapeCasts_S1x32_S32) shapeCasts_S32_S1x32 j = _
  rw [cast_back, ← slice_at r ![0, 128] 4 (by decide) rfl slices_S1x192_o0_128_S1x32 j, ← iotaT_at]
  rfl

/-- The plane numbers stored for window 5. -/
theorem word15 (a : BitVec 32) (r : IVec S1x192 32) (j : S1x32.Idx) : k0_pay15 a r iotaT j = wordOf a 5#32 (r (ixC (32 * 5 + (j 1).val))) (j 1).val := by
  unfold k0_pay15 wordOf
  show shapeCast S1x32 (shapeCast S32 _ shapeCasts_S1x32_S32) shapeCasts_S32_S1x32 j = _
  rw [cast_back, ← slice_at r ![0, 160] 5 (by decide) rfl slices_S1x192_o0_160_S1x32 j, ← iotaT_at]
  rfl

end Cert.Kernel.Hand
-- ==== Proof.Hand.Proto.lean ====
/-
  What the core holds as the images go by. The accumulator's 224 planes are seven slots of 32: six hold the windows of
  the image at hand, one is free. The planes of the result are written from those slots, or from plane 224 which stays
  zero and of which every channel has its own share; they are waited for one image later, window by window.
-/
module

public import proofs.«01_k».proof.Proof.Hand.Spec

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## The buffers' elements -/

abbrev ptX (c : Dev nD) (I : Finset S8x192x224x224.Idx) (f : XT F) : sProp 𝕄 := ((c : Thread nD τ).loc main_arg0) ↦[I]{fullShare} f
abbrev ptO (c : Dev nD) (I : Finset S8x192x224x224.Idx) (f : XT F) : sProp 𝕄 := ((c : Thread nD τ).loc main_v0) ↦[I]{fullShare} f
abbrev ptA (c : Dev nD) (I : Finset S225x224x224.Idx) (q : PosShare TreeShare) (f : AT F) : sProp 𝕄 := ((c : Thread nD τ).loc cc0_scratch0) ↦[I]{q} f

/-- The semaphore window `i` arrives on, and the one its planes are written on. -/
abbrev semI (i : Fin 6) : DmaSem sig := ⟨i.val, by have := i.isLt; show i.val < 13; omega⟩
abbrev semO (i : Fin 6) : DmaSem sig := ⟨6 + i.val, by have := i.isLt; show 6 + i.val < 13; omega⟩
abbrev semS : DmaSem sig := ⟨12, by decide⟩

/-- A DMA semaphore at zero. -/
abbrev zeroAt (c : Dev nD) (s : DmaSem sig) : sProp 𝕄 := semVal ((c : Thread nD τ), SemLoc.dma s) 0

/-- The channel of window `i` and place `t` in it. -/
abbrev chan (i : Fin 6) (t : Fin 32) : ℕ := 32 * i.val + t.val

/-- The elements of the result in the channels of window `i`, of every image. -/
def sC (i : Fin 6) : Finset S8x192x224x224.Idx := Finset.univ.filter fun j => (j 1).val / 32 = i.val

/-- An element is in column window `i` when its channel is. -/
theorem mem_sC {i : Fin 6} {j : S8x192x224x224.Idx} : j ∈ sC i ↔ (j 1).val / 32 = i.val := by simp [sC]

/-- One image's window of channels lies in its column window. -/
theorem sX_sub_sC (b : ℕ) (i : Fin 6) : sX b (32 * i.val) 32 ⊆ sC i := fun j hj => by
  rw [mem_sX] at hj; rw [mem_sC]; omega

/-- The result once the images before `b` are written. -/
def outAt (X V : XT F) (b : ℕ) : XT F := fun j => if (j 0).val < b then resV X j else V j

/-- Plane 224. -/
def zA : AT F := fun _ => zeroE

abbrev tok (n : ℕ) : PosShare TreeShare := Transfers.shareTokN fullShare n

/-- The shares of plane 224 of window `i`'s channels. -/
def Toks (c : Dev nD) (i : Fin 6) : sProp 𝕄 := bigSep Finset.univ fun t : Fin 32 => ptA (F := F) c (sA 224 1) (tok (chan i t)) zA

/-- Slot `i` of image `b` filled, and at any contents. -/
def SlotFull (c : Dev nD) (X : XT F) (b i : ℕ) : sProp 𝕄 := ptA c (sA (32 * slot b i) 32) fullShare (accV X b)
def SlotAny (c : Dev nD) (b i : ℕ) : sProp 𝕄 := iprop(∃ f, ptA (F := F) c (sA (32 * slot b i) 32) fullShare f)

/-- What one channel's copy reads and writes: its plane of the result at `o`, its plane of the slot, its share of plane 224. -/
def Rw (c : Dev nD) (X o : XT F) (b : ℕ) (i : Fin 6) (t : Fin 32) : sProp 𝕄 :=
  iprop(ptO c (sX b (chan i t) 1) o ∗ ptA c (sA (32 * slot b i.val + t.val) 1) fullShare (accV X b) ∗ ptA c (sA 224 1) (tok (chan i t)) zA)

/-- The share the copy takes of the plane it reads. -/
def srcQ (X : XT F) (b : ℕ) (i : Fin 6) (t : Fin 32) : PosShare TreeShare := if sel X b (chan i t) then fullShare else tok (chan i t)

/-- What the copy delivers, and what the core keeps meanwhile. -/
def Dv (c : Dev nD) (X V : XT F) (b : ℕ) (i : Fin 6) (t : Fin 32) : sProp 𝕄 :=
  iprop(ptO c (sX b (chan i t) 1) (outAt X V (b + 1)) ∗ ptA c (sA (srcP X b (chan i t)) 1) (srcQ X b i t) (accV X b))
def Kp (c : Dev nD) (X : XT F) (b : ℕ) (i : Fin 6) (t : Fin 32) : sProp 𝕄 :=
  if sel X b (chan i t) then ptA c (sA 224 1) (tok (chan i t)) zA else ptA c (sA (32 * slot b i.val + t.val) 1) fullShare (accV X b)

instance (c : Dev nD) (X V : XT F) (b : ℕ) (i : Fin 6) (t : Fin 32) : Storable (upEmb : UEmb _ 𝕄) (Dv c X V b i t) := by
  unfold Dv; infer_instance

/-- Window `i` of image `b` with the channels below `k` on their way. -/
def Mem (c : Dev nD) (X V : XT F) (b : ℕ) (i : Fin 6) (k : ℕ) : sProp 𝕄 :=
  iprop(Transfers.Batch (countersEmb (U := Pipeline.UD sig nD τ)) (c : Thread nD τ) (.dma (semO i)) () NP (Dv c X V b i) (min 32 (k - 32 * i.val)) 0
    ∗ (bigSep Finset.univ fun t : Fin 32 => if chan i t < k then Kp c X b i t else Rw c X (outAt X V b) b i t)
    ∗ ptO c (sC i \ sX b (32 * i.val) 32) (outAt X V (b + 1)))

/-- Window `i` of image `b` with all its channels on their way. -/
def Sent (c : Dev nD) (X V : XT F) (b : ℕ) (i : Fin 6) : sProp 𝕄 :=
  iprop(Transfers.Batch (countersEmb (U := Pipeline.UD sig nD τ)) (c : Thread nD τ) (.dma (semO i)) () NP (Dv c X V b i) 32 0
    ∗ (bigSep Finset.univ fun t : Fin 32 => Kp c X b i t)
    ∗ ptO c (sC i \ sX b (32 * i.val) 32) (outAt X V (b + 1)))

/-- Window `i` with nothing on its way, before image `b`'s planes are written. -/
def Idle (c : Dev nD) (X V : XT F) (b : ℕ) (i : Fin 6) : sProp 𝕄 :=
  iprop(zeroAt c (semO i) ∗ Toks (F := F) c i ∗ ptO c (sC i) (outAt X V b))

/-- Window `i` at the start of image `b`: what the image before sent, if there is one; and once that is waited for. -/
def Free (c : Dev nD) (X V : XT F) (b : ℕ) (i : Fin 6) : sProp 𝕄 := iprop(SlotAny (F := F) c b (i.val + 1) ∗ Idle c X V b i)
def Pend (c : Dev nD) (X V : XT F) (b : ℕ) (i : Fin 6) : sProp 𝕄 := if b = 0 then Free c X V b i else Sent c X V (b - 1) i

/-- Window `i` of image `b` arriving. -/
def Coming (c : Dev nD) (X : XT F) (b : ℕ) (i : Fin 6) : sProp 𝕄 :=
  Transfers.Flight (countersEmb (U := Pipeline.UD sig nD τ)) (c : Thread nD τ) (.dma (semI i)) () NA
    iprop(SlotFull c X b i.val ∗ ptX c (sX b (32 * i.val) 32) X)

/-! ## Rearrangements -/

/-- The slot number, read back to the position in the ring. -/
theorem slot_back (b i : ℕ) (hi : i < 7) : (slot b i + b) % 7 = i := by unfold slot; omega

/-- There are seven slots. -/
theorem slot_lt (b i : ℕ) : slot b i < 7 := Nat.mod_lt _ (by norm_num)

/-- The accumulator at plane `t` of the slot of window `i`: channel `32 i + t` of the image. -/
theorem accV_slot (X : XT F) (b : ℕ) (i : Fin 6) (t : Fin 32) (j : S225x224x224.Idx) (hj : (j 0).val = 32 * slot b i.val + t.val) :
    accV X b j = X (ixX b (chan i t) (j 1) (j 2)) := by
  have h1 := slot_lt b i.val
  have h2 := slot_back b i.val (by have := i.isLt; omega)
  have ht := t.isLt
  unfold accV
  rw [if_neg (by omega)]
  have e : 32 * (((j 0).val / 32 + b) % 7) + (j 0).val % 32 = chan i t := by
    rw [hj, show (32 * slot b i.val + t.val) / 32 = slot b i.val by omega, h2]; show _ = 32 * i.val + t.val; omega
  rw [e]

/-- The accumulator at plane 224: zero. -/
theorem accV_zero (X : XT F) (b : ℕ) (j : S225x224x224.Idx) (hj : j ∈ sA 224 1) : accV X b j = zA j := by
  rw [mem_sA] at hj; unfold accV zA; rw [if_pos (by omega)]

/-- Plane 224 is the zero plane whatever image is in the accumulator. -/
theorem ptA_zero (c : Dev nD) (X : XT F) (b : ℕ) (q : PosShare TreeShare) : ptA c (sA 224 1) q (accV X b) = (ptA c (sA 224 1) q zA : sProp 𝕄) :=
  pointsTo_congr fun j hj => accV_zero X b j hj

/-- Channel `32 i + t` is in window `i`. -/
theorem chan_div (i : Fin 6) (t : Fin 32) : chan i t / 32 = i.val := by have := t.isLt; show (32 * i.val + t.val) / 32 = _; omega
/-- Channel `32 i + t` is plane `t` of its window. -/
theorem chan_mod (i : Fin 6) (t : Fin 32) : chan i t % 32 = t.val := by have := t.isLt; show (32 * i.val + t.val) % 32 = _; omega

/-- What a channel's copy takes and what is kept, out of all that is its own; -/
theorem rw_issue (c : Dev nD) (X o : XT F) (b : ℕ) (i : Fin 6) (t : Fin 32) :
    Rw c X o b i t ⊢ iprop(ptO c (sX b (chan i t) 1) o ∗ ptA c (sA (srcP X b (chan i t)) 1) (srcQ X b i t) (accV X b) ∗ Kp c X b i t) := by
  unfold Rw Kp srcP srcQ
  rw [chan_div, chan_mod]
  cases h : sel X b (chan i t)
  · simp only [Bool.false_eq_true, if_false]
    rw [ptA_zero]
    iintro ⟨HO, HA, HT⟩
    isplitl [HO]; · iexact HO
    isplitl [HT] <;> iassumption
  · simp only [if_true]
    exact .rfl

/-- and back, once it is delivered. -/
theorem rw_done (c : Dev nD) (X V : XT F) (b : ℕ) (i : Fin 6) (t : Fin 32) :
    iprop(Dv c X V b i t ∗ Kp c X b i t) ⊢ Rw c X (outAt X V (b + 1)) b i t := by
  unfold Rw Kp Dv srcP srcQ
  rw [chan_div, chan_mod]
  cases h : sel X b (chan i t)
  · simp only [Bool.false_eq_true, if_false]
    rw [ptA_zero]
    iintro ⟨⟨HO, HT⟩, HA⟩
    isplitl [HO]; · iexact HO
    isplitl [HA] <;> iassumption
  · simp only [if_true]
    iintro ⟨⟨HO, HA⟩, HT⟩
    isplitl [HO]; · iexact HO
    isplitl [HA] <;> iassumption

/-- A window's planes of the result, one by one; and a slot's. -/
theorem ptO_planes (c : Dev nD) (o : XT F) (b lo n : ℕ) :
    ptO c (sX b lo n) o = (bigSep Finset.univ fun t : Fin n => ptO c (sX b (lo + t.val) 1) o : sProp 𝕄) := by
  rw [← sX_planes b lo n]
  exact pointsTo_biUnion (ℓ := (c : Thread nD τ).loc main_v0) _ _ fun t _ t' _ h => sX_disjoint (by have : t.val ≠ t'.val := fun e => h (Fin.ext e); omega)

/-- A run of planes of the accumulator is its planes one by one. -/
theorem ptA_planes (c : Dev nD) (q : PosShare TreeShare) (f : AT F) (lo n : ℕ) :
    ptA c (sA lo n) q f = (bigSep Finset.univ fun t : Fin n => ptA c (sA (lo + t.val) 1) q f : sProp 𝕄) := by
  rw [← sA_planes lo n]
  exact pointsTo_biUnion (ℓ := (c : Thread nD τ).loc cc0_scratch0) _ _ fun t _ t' _ h => sA_disjoint (by have : t.val ≠ t'.val := fun e => h (Fin.ext e); omega)

/-- A window's part of the result, its slot and its shares are its channels'. -/
theorem rw_all (c : Dev nD) (X o : XT F) (b : ℕ) (i : Fin 6) :
    (bigSep Finset.univ fun t : Fin 32 => Rw c X o b i t)
      = iprop(ptO c (sX b (32 * i.val) 32) o ∗ SlotFull c X b i.val ∗ Toks (F := F) c i) := by
  unfold Rw SlotFull Toks
  rw [bigSep_sep', bigSep_sep']
  rw [ptO_planes, ptA_planes]

/-- When all 192 channels have been reached, every plane of the window has been sent. -/
theorem sent_of_mem (c : Dev nD) (X V : XT F) (b : ℕ) (i : Fin 6) : Mem c X V b i 192 = Sent c X V b i := by
  have hi := i.isLt
  unfold Mem Sent
  rw [show min 32 (192 - 32 * i.val) = 32 by omega]
  rw [bigSep_congr (Ψ := fun t : Fin 32 => Kp c X b i t)]
  intro t _
  rw [if_pos (by have := t.isLt; show 32 * i.val + t.val < 192; omega)]

end Cert.Kernel.Hand
-- ==== Proof.Hand.Steps.lean ====
/-
  The kernel's copies and waits, each as one step: a window of `x` into its slot and its arrival, a plane of the
  accumulator into the result, and the wait for a window's 32 planes.
-/
module

public import proofs.«01_k».proof.Proof.Hand.Proto

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-- A finished program followed by another is the other. -/
theorem ret_bind' {E : Type → Type} {α β : Type} (a : α) (k : α → Prog E β) : (Prog.ret a).bind k = k a := rfl

/-- Equal assertions entail each other. -/
theorem of_eq {P Q : sProp 𝕄} (h : P = Q) : P ⊢ Q := h ▸ .rfl

/-- What the core owes after some waits. -/
abbrev Owes (c : Dev nD) : sProp 𝕄 := iprop(∃ W, owes (c : Thread nD τ) 0 W)

/-- The copied window, element by element. -/
theorem in_value (X : XT F) (b : ℕ) (hb : b < 8) (i : Fin 6) (fd : AT F) {offA : Fin 3 → ℕ} {offX : Fin 4 → ℕ} (hA hX)
    (oA : offA = ![32 * slot b i.val, 0, 0]) (oX : offX = ![b, 32 * i.val, 0, 0]) :
    ∀ j ∈ sA (32 * slot b i.val) 32,
      ((winA offA hA).view.write (Elt F) fd ((ReadAs.same (s := S32x224x224) (e := .f32)).apply ((winX mX offX hX).view.read (Elt F) X)) Finset.univ : AT F) j = accV X b j := by
  intro j hj
  rw [← winA_set oA hA] at hj
  obtain ⟨k, -, rfl⟩ := Finset.mem_map.mp hj
  obtain ⟨a0, a1, a2⟩ := winA_emb oA hA k
  obtain ⟨x0, x1, x2, x3⟩ := winX_emb_x oX hX k
  have hk : (k 0).val < 32 := (k 0).isLt
  rw [accV_slot X b i ⟨(k 0).val, hk⟩ _ a0, a1, a2]
  rw [View.write_emb_of_mem _ _ (Finset.mem_univ k)]
  show X ((winX mX offX hX).view.emb k) = _
  congr 1
  funext a
  have hi := i.isLt
  match a with
  | ⟨0, _⟩ => exact Fin.ext (by show _ = b % 8; rw [Nat.mod_eq_of_lt hb]; exact x0)
  | ⟨1, _⟩ => exact Fin.ext (by show _ = (32 * i.val + (k 0).val) % 192; rw [Nat.mod_eq_of_lt (by omega)]; exact x1)
  | ⟨2, _⟩ => exact x2
  | ⟨3, _⟩ => exact x3

/-- Window `i` of image `b` started into its slot. -/
theorem in_copy (c : Dev nD) (X : XT F) (b : ℕ) (hb : b < 8) (i : Fin 6) {s : DmaSem sig} (hs : s = semI i) {offA : Fin 3 → ℕ} {offX : Fin 4 → ℕ} {hA hX}
    (oA : offA = ![32 * slot b i.val, 0, 0]) (oX : offX = ![b, 32 * i.val, 0, 0]) {h1 h2 h3} {α : Type} {k : PUnit → Prog (TpuEff nD τ sig (Elt F) Λ₀ .tc) α} {Q : α → sProp 𝕄} :
    iprop(ptX c (sX b (32 * i.val) 32) X ∗ SlotAny (F := F) c b i.val ∗ zeroAt c (semI i))
      ⊢ iprop((Coming c X b i -∗ wp frame (wpE defs₀ 𝒱 (c : Thread nD τ) bd) Set.univ (k ⟨⟩) Q)
        -∗ wp frame (wpE defs₀ 𝒱 (c : Thread nD τ) bd) Set.univ (.op (.enqueueDma (winX mX offX hX) (.here (winA offA hA)) (.dma s) h1 h2 h3) k) Q) := by
  subst hs
  unfold SlotAny
  rw [← winA_set oA hA, ← winX_set oX hX]
  iintro ⟨HX, ⟨%fd, HA⟩, Hv⟩ Hk
  iapply (Transfers.wp_dmaLocal (countersEmb (U := Pipeline.UD sig nD τ)) 𝒱 (c : Thread nD τ) bd (src := winX mX offX hX) (dst := winA offA hA)
    (Q := Q) (fs := X) (fd := fd) () NA rfl NA_pos subset_rfl) $$ [HX HA Hv]
  · isplitl [HX]; · iexact HX
    isplitl [HA]; · iexact HA
    iexact Hv
  iintro HF
  iapply Hk
  unfold Coming SlotFull
  rw [← winX_set oX hX]
  iapply (Transfers.Flight_mono (countersEmb (U := Pipeline.UD sig nD τ))) $$ HF
  have e := pointsTo_congr (ℓ := (c : Thread nD τ).loc cc0_scratch0) (q := fullShare) (Ix := Unit) (Name := ℕ) (U := Pipeline.UD sig nD τ) (Lvl := ℕ)
    (in_value X b hb i fd hA hX oA oX)
  rw [← winA_set oA hA] at e ⊢
  exact sep_mono (of_eq e) .rfl

/-- Window `i` waited for. -/
theorem in_wait (c : Dev nD) (X : XT F) (b : ℕ) (i : Fin 6) {s : DmaSem sig} (hs : s = semI i) {srcw : Memref sig .tc .hbm S32x224x224 .f32} {offA : Fin 3 → ℕ} {hA}
    {h1 h2} {α : Type} {k : PUnit → Prog (TpuEff nD τ sig (Elt F) Λ₀ .tc) α} {Q : α → sProp 𝕄} :
    iprop(Coming c X b i ∗ Owes (F := F) c)
      ⊢ iprop((iprop(SlotFull c X b i.val ∗ ptX c (sX b (32 * i.val) 32) X ∗ zeroAt c (semI i) ∗ Owes (F := F) c) -∗ wp frame (wpE defs₀ 𝒱 (c : Thread nD τ) bd) Set.univ (k ⟨⟩) Q)
        -∗ wp frame (wpE defs₀ 𝒱 (c : Thread nD τ) bd) Set.univ (.op (.waitDma2 s srcw (winA offA hA) h1 h2) k) Q) := by
  subst hs
  unfold Coming
  iintro ⟨HF, %W, HO⟩ Hk
  iapply (Transfers.wp_waitLocal (countersEmb (U := Pipeline.UD sig nD τ)) 𝒱 (c : Thread nD τ) bd () (N := NA) rfl) $$ [HF HO]
  · isplitl [HF] <;> iassumption
  iintro ⟨⟨HA, HX⟩, Hv, HO⟩
  iapply Hk
  isplitl [HA]; · iexact HA
  isplitl [HX]; · iexact HX
  isplitl [Hv]; · iexact Hv
  iexists _; iexact HO

/-- The column of window `i`: image `b`'s part and the rest. -/
theorem column (c : Dev nD) (X V : XT F) (b : ℕ) (i : Fin 6) :
    (ptO c (sC i) (outAt X V b) : sProp 𝕄) ⊣⊢ iprop(ptO c (sX b (32 * i.val) 32) (outAt X V b) ∗ ptO c (sC i \ sX b (32 * i.val) 32) (outAt X V (b + 1))) := by
  have e : (ptO c (sC i \ sX b (32 * i.val) 32) (outAt X V (b + 1)) : sProp 𝕄) = ptO c (sC i \ sX b (32 * i.val) 32) (outAt X V b) := by
    refine pointsTo_congr fun j hj => ?_
    rw [Finset.mem_sdiff, mem_sC, mem_sX] at hj
    unfold outAt
    by_cases h : (j 0).val < b
    · rw [if_pos h, if_pos (by omega)]
    · rw [if_neg h, if_neg (by omega)]
  rw [e]
  exact pointsTo_split_subset (sX_sub_sC b i)

/-- The column of window `i` once image `b`'s part is written. -/
theorem column' (c : Dev nD) (X V : XT F) (b : ℕ) (i : Fin 6) :
    (ptO c (sC i) (outAt X V (b + 1)) : sProp 𝕄) ⊣⊢ iprop(ptO c (sX b (32 * i.val) 32) (outAt X V (b + 1)) ∗ ptO c (sC i \ sX b (32 * i.val) 32) (outAt X V (b + 1))) :=
  pointsTo_split_subset (sX_sub_sC b i)

/-- The next image's window `i + 1` goes to the slot of this image's window `i`. -/
theorem slot_next (b i : ℕ) : slot (b + 1) (i + 1) = slot b i := by unfold slot; omega

/-- All 32 planes waited for: the window is free for the next image. -/
theorem out_wait (c : Dev nD) (X V : XT F) (b : ℕ) (i : Fin 6) {s : DmaSem sig} (hs : s = semO i) {srcw : Memref sig .tc .vmem S32x224x224 .f32} {offX : Fin 4 → ℕ} {hX}
    {h1 h2} {α : Type} {k : PUnit → Prog (TpuEff nD τ sig (Elt F) Λ₀ .tc) α} {Q : α → sProp 𝕄} :
    iprop(Sent c X V b i ∗ Owes (F := F) c)
      ⊢ iprop((iprop(Free c X V (b + 1) i ∗ Owes (F := F) c) -∗ wp frame (wpE defs₀ 𝒱 (c : Thread nD τ) bd) Set.univ (k ⟨⟩) Q)
        -∗ wp frame (wpE defs₀ 𝒱 (c : Thread nD τ) bd) Set.univ (.op (.waitDma2 s srcw (winX mO offX hX) h1 h2) k) Q) := by
  subst hs
  unfold Sent
  iintro ⟨⟨HB, HK, HC⟩, %W, HO⟩ Hk
  iapply (Transfers.wp_waitBatchAll (countersEmb (U := Pipeline.UD sig nD τ)) 𝒱 (c : Thread nD τ) bd () (J := 32 * NP) (N := NP) cred_chunk NP_pos
    (by rw [Nat.zero_add, Nat.mul_comm])) $$ [HB HO]
  · isplitl [HB] <;> iassumption
  iintro ⟨HD, Hv, HO⟩
  iapply Hk
  have join : iprop((bigSep Finset.univ fun t : Fin 32 => Dv c X V b i t) ∗ bigSep Finset.univ fun t : Fin 32 => Kp c X b i t)
      ⊢ iprop(ptO c (sX b (32 * i.val) 32) (outAt X V (b + 1)) ∗ SlotFull c X b i.val ∗ Toks (F := F) c i) := by
    rw [← rw_all, ← bigSep_sep']
    exact bigSep_mono fun t _ => rw_done c X V b i t
  ihave HR := join $$ [HD HK]
  · isplitl [HD]
    · iexact HD
    · iexact HK
  icases HR with ⟨HP, HS, HT⟩
  isplitr [HO]
  · unfold Free Idle SlotAny
    rw [slot_next]
    isplitl [HS]
    · unfold SlotFull; iexists _; iexact HS
    isplitl [Hv]; · iexact Hv
    isplitl [HT]; · iexact HT
    iapply (column' c X V b i).2
    isplitl [HP] <;> iassumption
  · iexists _; iexact HO

/-- The wait at the start of an image, which the first image does not make. -/
theorem pend_wait (c : Dev nD) (X V : XT F) (b : ℕ) (i : Fin 6) {s : DmaSem sig} (hs : s = semO i) {C : Prop} [Decidable C] (hC : C ↔ b ≠ 0)
    {srcw : Memref sig .tc .vmem S32x224x224 .f32} {offX : C → Fin 4 → ℕ} {hX : ∀ h a, offX h a + S1x32x224x224.size a ≤ S8x192x224x224.size a}
    {h1 : srcw.view.WordExact} {h2 : ∀ h, (winX mO (offX h) (hX h)).view.WordExact}
    {α : Type} {p : Prog (TpuEff nD τ sig (Elt F) Λ₀ .tc) α} {Q : α → sProp 𝕄} :
    iprop(Pend c X V b i ∗ Owes (F := F) c)
      ⊢ iprop((iprop(Free c X V b i ∗ Owes (F := F) c) -∗ wp frame (wpE defs₀ 𝒱 (c : Thread nD τ) bd) Set.univ p Q)
        -∗ wp frame (wpE defs₀ 𝒱 (c : Thread nD τ) bd) Set.univ
          (if h : C then (.op (.waitDma2 s srcw (winX mO (offX h) (hX h)) h1 (h2 h)) fun _ => p) else p) Q) := by
  by_cases h : C
  · rw [dif_pos h]
    obtain ⟨m, rfl⟩ : ∃ m, b = m + 1 := ⟨b - 1, by have := hC.mp h; omega⟩
    unfold Pend
    rw [if_neg (by omega), Nat.add_sub_cancel]
    iintro ⟨HP, HO⟩ Hk
    iapply (out_wait 𝒱 bd c X V m i hs) $$ [HP HO]
    · isplitl [HP] <;> iassumption
    iexact Hk
  · rw [dif_neg h]
    have hb : b = 0 := by by_contra hb; exact h (hC.mpr hb)
    unfold Pend
    rw [if_pos hb]
    iintro ⟨HP, HO⟩ Hk
    iapply Hk
    isplitl [HP] <;> iassumption

end Cert.Kernel.Hand
-- ==== Proof.Hand.Trip.lean ====
/-
  The loop over the 192 channels: trip `k` starts the copy of channel `k`'s plane, from the plane the table names.
-/
module

public import proofs.«01_k».proof.Proof.Hand.Steps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-- The planes named are among the 225. -/
theorem srcP_le (X : XT F) (b ch : ℕ) : srcP X b ch ≤ 224 := by
  have := slot_lt b (ch / 32)
  unfold srcP; split <;> omega

/-- The written plane, element by element. -/
theorem out_value (X V : XT F) (b : ℕ) (hb : b < 8) (i : Fin 6) (t : Fin 32) (fd : XT F) {offA : Fin 3 → ℕ} {offX : Fin 4 → ℕ} (hA hX)
    (oA : offA = ![srcP X b (chan i t), 0, 0]) (oX : offX = ![b, chan i t, 0, 0]) :
    ∀ j ∈ sX b (chan i t) 1,
      ((plX mO offX hX).view.write (Elt F) fd ((ReadAs.same (s := S1x224x224) (e := .f32)).apply ((plA offA hA).view.read (Elt F) (accV X b))) Finset.univ : XT F) j
        = outAt X V (b + 1) j := by
  intro j hj
  rw [← plX_set oX hX] at hj
  obtain ⟨k, -, rfl⟩ := Finset.mem_map.mp hj
  obtain ⟨a0, a1, a2⟩ := plA_emb oA hA k
  obtain ⟨x0, x1, x2, x3⟩ := plX_emb oX hX k
  have hi := i.isLt
  have ht := t.isLt
  rw [View.write_emb_of_mem _ _ (Finset.mem_univ k)]
  show accV X b ((plA offA hA).view.emb k) = _
  unfold outAt
  rw [if_pos (by rw [x0]; omega)]
  unfold resV
  rw [x0, x1]
  cases h : sel X b (chan i t)
  · rw [accV_zero X b _ (by rw [mem_sA, a0]; unfold srcP; rw [h]; simp)]
    exact (if_neg Bool.false_ne_true).symm
  · rw [accV_slot X b i t _ (by rw [a0]; unfold srcP; rw [h, if_pos rfl, chan_div, chan_mod]), a1, a2]
    refine congrArg X (funext fun a => ?_)
    match a with
    | ⟨0, _⟩ => exact Fin.ext (by show b % 8 = _; rw [Nat.mod_eq_of_lt hb]; exact x0.symm)
    | ⟨1, _⟩ => exact Fin.ext (by show (32 * i.val + t.val) % 192 = _; rw [Nat.mod_eq_of_lt (by omega)]; exact x1.symm)
    | ⟨2, _⟩ => exact x2.symm
    | ⟨3, _⟩ => exact x3.symm

/-- The copy of channel `chan i t`. -/
theorem out_copy (c : Dev nD) (X V : XT F) (b : ℕ) (hb : b < 8) (i : Fin 6) (t : Fin 32) {s : DmaSem sig} (hs : s = semO i) {offA : Fin 3 → ℕ} {offX : Fin 4 → ℕ} {hA hX}
    (oA : offA = ![srcP X b (chan i t), 0, 0]) (oX : offX = ![b, chan i t, 0, 0]) {h1 h2 h3} {α : Type} {k : PUnit → Prog (TpuEff nD τ sig (Elt F) Λ₀ .tc) α} {Q : α → sProp 𝕄} :
    iprop(Transfers.Batch (countersEmb (U := Pipeline.UD sig nD τ)) (c : Thread nD τ) (.dma (semO i)) () NP (Dv c X V b i) t.val 0 ∗ Rw c X (outAt X V b) b i t)
      ⊢ iprop((iprop(Transfers.Batch (countersEmb (U := Pipeline.UD sig nD τ)) (c : Thread nD τ) (.dma (semO i)) () NP (Dv c X V b i) (t.val + 1) 0 ∗ Kp c X b i t)
          -∗ wp frame (wpE defs₀ 𝒱 (c : Thread nD τ) bd) Set.univ (k ⟨⟩) Q)
        -∗ wp frame (wpE defs₀ 𝒱 (c : Thread nD τ) bd) Set.univ (.op (.enqueueDma (plA offA hA) (.here (plX mO offX hX)) (.dma s) h1 h2 h3) k) Q) := by
  subst hs
  have e := pointsTo_congr (ℓ := (c : Thread nD τ).loc main_v0) (q := fullShare) (Ix := Unit) (Name := ℕ) (U := Pipeline.UD sig nD τ) (Lvl := ℕ)
    (out_value X V b hb i t (outAt X V b) hA hX oA oX)
  iintro ⟨HB, HR⟩ Hk
  ihave HR' := (rw_issue c X (outAt X V b) b i t) $$ HR
  rw [← plA_set oA hA, ← plX_set oX hX]
  icases HR' with ⟨HO, HA, HK⟩
  iapply (Transfers.wp_dmaBatch (countersEmb (U := Pipeline.UD sig nD τ)) 𝒱 (c : Thread nD τ) bd (src := plA offA hA) (dst := plX mO offX hX)
    (Q := Q) (fs := accV X b) (fd := outAt X V b) (q := srcQ X b i t) () NP rfl subset_rfl (D := Dv c X V b i) (j := t.val) (u := 0) t.isLt (Nat.zero_le _)
    (by
      unfold Dv
      rw [← plA_set oA hA]
      rw [← plX_set oX hX] at e ⊢
      exact sep_mono (of_eq e) .rfl)) $$ [HA HO HB]
  · isplitl [HA]; · iexact HA
    isplitl [HO]; · iexact HO
    iexact HB
  iintro HB
  iapply Hk
  isplitl [HB] <;> iassumption

/-- One member of a family apart. -/
theorem bigSep_take {I : Type} [DecidableEq I] {s : Finset I} {i : I} (h : i ∈ s) {Φ : I → sProp 𝕄} :
    bigSep s Φ = iprop(Φ i ∗ bigSep (s.erase i) Φ) := bigSep_erase h

/-- Window `i` at its own trip: the channel about to go is all held, -/
theorem mem_before (c : Dev nD) (X V : XT F) (b : ℕ) (i : Fin 6) (t : Fin 32) :
    Mem c X V b i (chan i t)
      = iprop(Transfers.Batch (countersEmb (U := Pipeline.UD sig nD τ)) (c : Thread nD τ) (.dma (semO i)) () NP (Dv c X V b i) t.val 0
        ∗ (Rw c X (outAt X V b) b i t ∗ bigSep (Finset.univ.erase t) fun s : Fin 32 => if chan i s < chan i t then Kp c X b i s else Rw c X (outAt X V b) b i s)
        ∗ ptO c (sC i \ sX b (32 * i.val) 32) (outAt X V (b + 1))) := by
  have ht := t.isLt
  unfold Mem
  rw [show min 32 (chan i t - 32 * i.val) = t.val by show min 32 (32 * i.val + t.val - 32 * i.val) = _; omega]
  rw [bigSep_take (Finset.mem_univ t), if_neg (Nat.lt_irrefl _)]

/-- and after it the channel's plane is on its way. -/
theorem mem_after (c : Dev nD) (X V : XT F) (b : ℕ) (i : Fin 6) (t : Fin 32) :
    Mem c X V b i (chan i t + 1)
      = iprop(Transfers.Batch (countersEmb (U := Pipeline.UD sig nD τ)) (c : Thread nD τ) (.dma (semO i)) () NP (Dv c X V b i) (t.val + 1) 0
        ∗ (Kp c X b i t ∗ bigSep (Finset.univ.erase t) fun s : Fin 32 => if chan i s < chan i t then Kp c X b i s else Rw c X (outAt X V b) b i s)
        ∗ ptO c (sC i \ sX b (32 * i.val) 32) (outAt X V (b + 1))) := by
  have ht := t.isLt
  unfold Mem
  rw [show min 32 (chan i t + 1 - 32 * i.val) = t.val + 1 by show min 32 (32 * i.val + t.val + 1 - 32 * i.val) = _; omega]
  rw [bigSep_take (Finset.mem_univ t), if_pos (Nat.lt_succ_self _)]
  rw [bigSep_congr (s := Finset.univ.erase t) (Ψ := fun s : Fin 32 => if chan i s < chan i t then Kp c X b i s else Rw c X (outAt X V b) b i s)]
  intro s hs
  have hne : s.val ≠ t.val := fun e => Finset.ne_of_mem_erase hs (Fin.ext e)
  have : chan i s < chan i t + 1 ↔ chan i s < chan i t := by show 32 * i.val + s.val < 32 * i.val + t.val + 1 ↔ 32 * i.val + s.val < 32 * i.val + t.val; omega
  simp only [this]

/-- The other windows do not change. -/
theorem mem_other (c : Dev nD) (X V : XT F) (b : ℕ) (i j : Fin 6) (hij : j ≠ i) (t : Fin 32) :
    Mem c X V b j (chan i t) = Mem c X V b j (chan i t + 1) := by
  have hne : j.val ≠ i.val := fun e => hij (Fin.ext e)
  have ht := t.isLt
  unfold Mem
  rw [show min 32 (chan i t - 32 * j.val) = min 32 (chan i t + 1 - 32 * j.val) by
    show min 32 (32 * i.val + t.val - 32 * j.val) = min 32 (32 * i.val + t.val + 1 - 32 * j.val); omega]
  have : ∀ s : Fin 32, chan j s < chan i t + 1 ↔ chan j s < chan i t := fun s => by
    have := s.isLt
    show 32 * j.val + s.val < 32 * i.val + t.val + 1 ↔ 32 * j.val + s.val < 32 * i.val + t.val; omega
  simp only [this]

/-- The table of planes in the scalar memory. -/
abbrev ptR (c : Dev nD) (f : IVec S1x192 32) : sProp 𝕄 := ((c : Thread nD τ).loc cc0_scratch3) ↦{fullShare} f

/-- The table read at channel `k`. -/
theorem table_at (f : IVec S1x192 32) (k : ℕ) (hk : k < 192) {off : Fin 2 → ℕ} (ho : off = ![0, k]) (h : ∀ a, off a + S1x1.size a ≤ S1x192.size a) (x : S1x1.Idx) :
    (mR.access (Rect.unit (s := S1x192) off S1x1.size h)).read (Elt F) f x = f (ixC k) := by
  subst ho
  show f _ = f _
  congr 1
  have h0 : (x 0).val < 1 := (x 0).isLt
  have h1 : (x 1).val < 1 := (x 1).isLt
  funext a
  match a with
  | ⟨0, _⟩ => exact Fin.ext (by show 0 + 1 * (x 0).val = 0; omega)
  | ⟨1, _⟩ => exact Fin.ext (by show k + 1 * (x 1).val = k % 192; omega)

/-- Where trip `k` reads the table. -/
theorem off15_eq : ∀ k : Fin k0_t1_loop.trips, k0_off15 k = ![0, k.val] := by decide +kernel
/-- Where trip `k` writes in the result. -/
theorem off17_eq (i : grid0.Coords) (b : ℕ) (hi : (i 0).val = b) : ∀ k : Fin k0_t1_loop.trips, k0_off17 i k = ![b, k.val, 0, 0] := by
  have hb : b < 8 := hi ▸ (i 0).isLt
  intro k
  unfold k0_off17
  rw [hi]
  have h1 : (BitVec.ofNat 32 b).toNat = b := by rw [BitVec.toNat_ofNat]; omega
  have h2 : ∀ k : Fin k0_t1_loop.trips, (Scf.iv 0#32 1#32 k : BitVec 32).toNat = k.val := by decide +kernel
  show ![(BitVec.ofNat 32 b).toNat, (Scf.iv 0#32 1#32 k : BitVec 32).toNat, (0#32 : BitVec 32).toNat, (0#32 : BitVec 32).toNat] = _
  rw [h1, h2 k]; rfl

/-- What the loop holds before trip `k`. -/
def Run (c : Dev nD) (X V : XT F) (b : ℕ) (f : IVec S1x192 32) (k : ℕ) : sProp 𝕄 :=
  iprop(ptR (F := F) c f ∗ bigSep Finset.univ fun i : Fin 6 => Mem c X V b i k)

/-- The read of the table at channel `k`. -/
theorem table_read (c : Dev nD) (f : IVec S1x192 32) (k : ℕ) (hk : k < 192) {off : Fin 2 → ℕ} (ho : off = ![0, k]) {h : ∀ a, off a + S1x1.size a ≤ S1x192.size a}
    {h1 hp} {α : Type} {K : Elt F .i32 → Prog (TpuEff nD τ sig (Elt F) Λ₀ .tc) α} {Q : α → sProp 𝕄} :
    ptR (F := F) c f ⊢ iprop((ptR (F := F) c f -∗ wp frame (wpE defs₀ 𝒱 (c : Thread nD τ) bd) Set.univ (K (f (ixC k))) Q)
      -∗ wp frame (wpE defs₀ 𝒱 (c : Thread nD τ) bd) Set.univ (smemLoad mR (Rect.unit (s := S1x192) off S1x1.size h) h1 hp >>= K) Q) := by
  have e := wp_smemLoadElt (defs := defs₀) (Γ := ∅) 𝒱 (c : Thread nD τ) bd Set.univ (m := mR) (r := Rect.unit (s := S1x192) off S1x1.size h) (hw := View.loads_smem_one hp h1)
    (x := Shape.Idx.first (h1.symm ▸ Nat.one_pos)) (k := K) (Q := Q) (S := Finset.univ) (q := fullShare) (f := f) (Finset.subset_univ _)
  rw [table_at f k hk ho] at e
  exact e

/-- A plane below 225 lies in the table of planes. -/
theorem plane_in {n : ℕ} {off : Fin 3 → ℕ} (ho : off = ![n, 0, 0]) (hn : n ≤ 224) : ∀ a : Fin 3, off a + S1x224x224.size a ≤ S225x224x224.size a := by
  subst ho
  intro a
  match a with
  | ⟨0, _⟩ => exact Nat.add_le_add_right hn 1
  | ⟨1, _⟩ => exact Nat.le_refl _
  | ⟨2, _⟩ => exact Nat.le_refl _

/-- One trip. -/
theorem trip (c : Dev nD) (X V : XT F) (i : grid0.Coords) (b : ℕ) (hi : (i 0).val = b) (f : IVec S1x192 32) (hf : ∀ ch, ch < 192 → f (ixC ch) = BitVec.ofNat 32 (srcP X b ch))
    (k : Fin k0_t1_loop.trips) (u : Unit) {a1 a2 a3 a4 a5 a6} :
    Run c X V b f k.val ⊢ wp frame (wpE defs₀ 𝒱 (c : Thread nD τ) bd) Set.univ
      (k0_t1_body (F := F) i mX a1 mO a2 mA a3 mM a4 mS a5 mR a6 cc0_scratch4 cc0_scratch5 cc0_scratch6 k u) (fun _ => Run c X V b f (k.val + 1)) := by
  have hb : b < 8 := hi ▸ (i 0).isLt
  have hk : k.val < 192 := k.isLt
  obtain ⟨w, hw⟩ : ∃ w : Fin 6, w.val = k.val / 32 := ⟨⟨k.val / 32, by omega⟩, rfl⟩
  obtain ⟨t, ht⟩ : ∃ t : Fin 32, t.val = k.val % 32 := ⟨⟨k.val % 32, by omega⟩, rfl⟩
  have hc : k.val = chan w t := by show _ = 32 * w.val + t.val; omega
  have hs : ((cc0_scratch5.slice (Rect.unit (s := S6) (k0_off16 k) S1.size (k0_off16_inb k))).squeeze S_ squeezes_S1_S_).sem = semO w :=
    sem_out w _ (by rw [off16_eq, hw]) _
  have o17 : k0_off17 i k = ![b, chan w t, 0, 0] := by rw [off17_eq i b hi, ← hc]
  unfold Run
  rw [bigSep_take (Finset.mem_univ w), bigSep_take (s := Finset.univ) (Φ := fun i => Mem c X V b i (k.val + 1)) (Finset.mem_univ w), hc, mem_before, mem_after]
  rw [bigSep_congr (s := Finset.univ.erase w) (Φ := fun i => Mem c X V b i (chan w t)) (Ψ := fun i => Mem c X V b i (chan w t + 1))
    fun j hj => mem_other c X V b w j (Finset.ne_of_mem_erase hj) t]
  unfold k0_t1_body
  iintro ⟨HR, ⟨HB, ⟨HW, HWs⟩, HC⟩, HM⟩
  iapply (table_read 𝒱 bd c f k.val hk (off15_eq k)) $$ HR
  rw [hf k.val hk]
  iintro HR
  have hle := srcP_le X b k.val
  have hn : (BitVec.ofNat 32 (srcP X b k.val)).toNat = srcP X b k.val := by rw [BitVec.toNat_ofNat]; omega
  have o18 : k0_off18 (BitVec.ofNat 32 (srcP X b k.val)) = ![srcP X b (chan w t), 0, 0] := by unfold k0_off18; rw [hn, hc]
  iapply (wp_assume 𝒱 (c : Thread nD τ) bd Set.univ (show k0_chk1 (BitVec.ofNat 32 (srcP X b k.val)) from by
    exact plane_in o18 (srcP_le X b _)))
  iapply (out_copy 𝒱 bd c X V b hb w t hs o18 o17) $$ [HB HW]
  · isplitl [HB] <;> iassumption
  iintro ⟨HB, HK⟩
  simp only [ret_bind']
  sl_step
  isplitl [HR]; · iexact HR
  isplitr [HM]
  · isplitl [HB]; · iexact HB
    isplitr [HC]
    · isplitl [HK] <;> iassumption
    · iexact HC
  · iexact HM

end Cert.Kernel.Hand
-- ==== Proof.Hand.Load.lean ====
/-
  The rows of maxima and of planes as they are filled, a window read for its maxima, and the table taken to the scalar memory.
-/
module

public import proofs.«01_k».proof.Proof.Hand.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-! ## The rows of 192 -/

abbrev ptM (c : Dev nD) (f : Vec F S1x192 .f32) : sProp 𝕄 := ((c : Thread nD τ).loc cc0_scratch1) ↦{fullShare} f
abbrev ptS (c : Dev nD) (f : IVec S1x192 32) : sProp 𝕄 := ((c : Thread nD τ).loc cc0_scratch2) ↦{fullShare} f

/-- The row of maxima, right below `n`; the row of planes, right below `n`. -/
def MaxTo (c : Dev nD) (X : XT F) (b n : ℕ) : sProp 𝕄 := iprop(∃ f, ⌜∀ ch, ch < n → f (ixC ch) = maxV X b (ixC ch)⌝ ∗ ptM (F := F) c f)
def SrcTo (c : Dev nD) (X : XT F) (b n : ℕ) : sProp 𝕄 := iprop(∃ f, ⌜∀ ch, ch < n → f (ixC ch) = BitVec.ofNat 32 (srcP X b ch)⌝ ∗ ptS (F := F) c f)

/-- A row with 32 of its words from `lo` on written. -/
theorem row_write_M (f : Vec F S1x192 .f32) (lo : ℕ) {off : Fin 2 → ℕ} (ho : off = ![0, lo]) (h : ∀ a, off a + S1x32.size a ≤ S1x192.size a) (w : Vec F S1x32 .f32)
    (ch : ℕ) (hc : ch < 192) (hl : lo + 32 ≤ 192) :
    ((mM.access (Rect.unit (s := S1x192) off S1x32.size h)).write (Elt F) f w Finset.univ : Vec F S1x192 .f32) (ixC ch)
      = if lo ≤ ch ∧ ch < lo + 32 then w (ixT (ch - lo)) else f (ixC ch) := by
  subst ho
  by_cases hr : lo ≤ ch ∧ ch < lo + 32
  · rw [if_pos hr]
    have e : (mM.access (Rect.unit (s := S1x192) ![0, lo] S1x32.size h)).emb (ixT (ch - lo)) = ixC ch := by
      funext a
      match a with
      | ⟨0, _⟩ => exact Fin.ext rfl
      | ⟨1, _⟩ => exact Fin.ext (by show lo + 1 * ((ch - lo) % 32) = ch % 192; omega)
    rw [← e, View.write_emb_of_mem _ _ (Finset.mem_univ _)]; rfl
  · rw [if_neg hr]
    refine View.write_of_not_mem _ _ _ ?_
    intro hm
    obtain ⟨k, -, hk⟩ := Finset.mem_map.mp hm
    have hk1 := congrArg (fun j : S1x192.Idx => (j 1).val) hk
    have h1 : (k 1).val < 32 := (k 1).isLt
    have : lo + 1 * (k 1).val = ch % 192 := hk1
    omega

/-- A window of the table written, at an element. -/
theorem row_write_S (f : IVec S1x192 32) (lo : ℕ) {off : Fin 2 → ℕ} (ho : off = ![0, lo]) (h : ∀ a, off a + S1x32.size a ≤ S1x192.size a) (w : IVec S1x32 32)
    (ch : ℕ) (hc : ch < 192) (hl : lo + 32 ≤ 192) :
    ((mS.access (Rect.unit (s := S1x192) off S1x32.size h)).write (Elt F) f w Finset.univ : IVec S1x192 32) (ixC ch)
      = if lo ≤ ch ∧ ch < lo + 32 then w (ixT (ch - lo)) else f (ixC ch) := by
  subst ho
  by_cases hr : lo ≤ ch ∧ ch < lo + 32
  · rw [if_pos hr]
    have e : (mS.access (Rect.unit (s := S1x192) ![0, lo] S1x32.size h)).emb (ixT (ch - lo)) = ixC ch := by
      funext a
      match a with
      | ⟨0, _⟩ => exact Fin.ext rfl
      | ⟨1, _⟩ => exact Fin.ext (by show lo + 1 * ((ch - lo) % 32) = ch % 192; omega)
    rw [← e, View.write_emb_of_mem _ _ (Finset.mem_univ _)]; rfl
  · rw [if_neg hr]
    refine View.write_of_not_mem _ _ _ ?_
    intro hm
    obtain ⟨k, -, hk⟩ := Finset.mem_map.mp hm
    have hk1 := congrArg (fun j : S1x192.Idx => (j 1).val) hk
    have h1 : (k 1).val < 32 := (k 1).isLt
    have : lo + 1 * (k 1).val = ch % 192 := hk1
    omega

/-- Reading a row and not using it. -/
theorem skip_M (c : Dev nD) (X : XT F) (b n : ℕ) {r : Rect S1x192} {hl} {α : Type} {k : _ → Prog (TpuEff nD τ sig (Elt F) Λ₀ .tc) α} {Q : α → sProp 𝕄} :
    MaxTo c X b n ⊢ iprop((∀ v, MaxTo c X b n -∗ wp frame (wpE defs₀ 𝒱 (c : Thread nD τ) bd) Set.univ (k v) Q)
      -∗ wp frame (wpE defs₀ 𝒱 (c : Thread nD τ) bd) Set.univ (.op (.load mM r.toLoadRect hl) k) Q) := by
  unfold MaxTo
  iintro ⟨%f, %hf, H⟩ Hk
  iapply (wp_load_rect (defs := defs₀) (Γ := ∅) 𝒱 (c : Thread nD τ) bd Set.univ (m := mM) (r := r) (hl := hl) (q := fullShare) (f := f) (Finset.subset_univ _)) $$ H
  iintro H
  iapply Hk
  iexists f; isplitr
  · ipureintro; exact hf
  · iexact H

/-- A read of the table whose value is not used. -/
theorem skip_S (c : Dev nD) (X : XT F) (b n : ℕ) {r : Rect S1x192} {hl} {α : Type} {k : _ → Prog (TpuEff nD τ sig (Elt F) Λ₀ .tc) α} {Q : α → sProp 𝕄} :
    SrcTo c X b n ⊢ iprop((∀ v, SrcTo c X b n -∗ wp frame (wpE defs₀ 𝒱 (c : Thread nD τ) bd) Set.univ (k v) Q)
      -∗ wp frame (wpE defs₀ 𝒱 (c : Thread nD τ) bd) Set.univ (.op (.load mS r.toLoadRect hl) k) Q) := by
  unfold SrcTo
  iintro ⟨%f, %hf, H⟩ Hk
  iapply (wp_load_rect (defs := defs₀) (Γ := ∅) 𝒱 (c : Thread nD τ) bd Set.univ (m := mS) (r := r) (hl := hl) (q := fullShare) (f := f) (Finset.subset_univ _)) $$ H
  iintro H
  iapply Hk
  iexists f; isplitr
  · ipureintro; exact hf
  · iexact H

/-- Writing the next 32 words of a row. -/
theorem put_M (c : Dev nD) (X : XT F) (b i : ℕ) (hi : i < 6) {off : Fin 2 → ℕ} (ho : off = ![0, 32 * i]) {h : ∀ a, off a + S1x32.size a ≤ S1x192.size a} {w : Vec F S1x32 .f32}
    (hw : ∀ t, t < 32 → w (ixT t) = maxV X b (ixC (32 * i + t))) {hx hm} {α : Type} {k : PUnit → Prog (TpuEff nD τ sig (Elt F) Λ₀ .tc) α} {Q : α → sProp 𝕄} :
    MaxTo c X b (32 * i) ⊢ iprop((MaxTo c X b (32 * (i + 1)) -∗ wp frame (wpE defs₀ 𝒱 (c : Thread nD τ) bd) Set.univ (k ⟨⟩) Q)
      -∗ wp frame (wpE defs₀ 𝒱 (c : Thread nD τ) bd) Set.univ (.op (.store mM (Rect.unit (s := S1x192) off S1x32.size h) w Finset.univ hx hm) k) Q) := by
  unfold MaxTo
  iintro ⟨%f, %hf, H⟩ Hk
  iapply (wp_store (defs := defs₀) (Γ := ∅) 𝒱 (c : Thread nD τ) bd Set.univ (m := mM) (r := (Rect.unit (s := S1x192) off S1x32.size h)) (f := f) (Finset.subset_univ _)) $$ H
  iintro H
  iapply Hk
  iexists _; isplitr
  rotate_left
  · iexact H
  · ipureintro
    intro ch hc
    refine (row_write_M f (32 * i) ho h w ch (by omega) (by omega)).trans ?_
    by_cases hr : 32 * i ≤ ch ∧ ch < 32 * i + 32
    · rw [if_pos hr, hw _ (by omega), show 32 * i + (ch - 32 * i) = ch by omega]
    · rw [if_neg hr, hf ch (by omega)]

/-- A window of plane numbers stored into the table. -/
theorem put_S (c : Dev nD) (X : XT F) (b i : ℕ) (hi : i < 6) {off : Fin 2 → ℕ} (ho : off = ![0, 32 * i]) {h : ∀ a, off a + S1x32.size a ≤ S1x192.size a} {w : IVec S1x32 32}
    (hw : ∀ t, t < 32 → w (ixT t) = BitVec.ofNat 32 (srcP X b (32 * i + t))) {hx hm} {α : Type} {k : PUnit → Prog (TpuEff nD τ sig (Elt F) Λ₀ .tc) α} {Q : α → sProp 𝕄} :
    SrcTo c X b (32 * i) ⊢ iprop((SrcTo c X b (32 * (i + 1)) -∗ wp frame (wpE defs₀ 𝒱 (c : Thread nD τ) bd) Set.univ (k ⟨⟩) Q)
      -∗ wp frame (wpE defs₀ 𝒱 (c : Thread nD τ) bd) Set.univ (.op (.store mS (Rect.unit (s := S1x192) off S1x32.size h) w Finset.univ hx hm) k) Q) := by
  unfold SrcTo
  iintro ⟨%f, %hf, H⟩ Hk
  iapply (wp_store (defs := defs₀) (Γ := ∅) 𝒱 (c : Thread nD τ) bd Set.univ (m := mS) (r := (Rect.unit (s := S1x192) off S1x32.size h)) (f := f) (Finset.subset_univ _)) $$ H
  iintro H
  iapply Hk
  iexists _; isplitr
  rotate_left
  · iexact H
  · ipureintro
    intro ch hc
    refine (row_write_S (F := F) f (32 * i) ho h w ch (by omega) (by omega)).trans ?_
    by_cases hr : 32 * i ≤ ch ∧ ch < 32 * i + 32
    · rw [if_pos hr, hw _ (by omega), show 32 * i + (ch - 32 * i) = ch by omega]
    · rw [if_neg hr, hf ch (by omega)]

/-- The row of maxima read whole, once it is complete. -/
theorem all_M (c : Dev nD) (X : XT F) (b : ℕ) {off : Fin 2 → ℕ} (ho : off = ![0, 0]) {h : ∀ a, off a + S1x192.size a ≤ S1x192.size a} {hl} {α : Type}
    {k : Vec F S1x192 .f32 → Prog (TpuEff nD τ sig (Elt F) Λ₀ .tc) α} {Q : α → sProp 𝕄} :
    MaxTo c X b 192 ⊢ iprop((MaxTo c X b 192 -∗ wp frame (wpE defs₀ 𝒱 (c : Thread nD τ) bd) Set.univ (k (maxV X b)) Q)
      -∗ wp frame (wpE defs₀ 𝒱 (c : Thread nD τ) bd) Set.univ (.op (.load mM (Rect.unit (s := S1x192) off S1x192.size h).toLoadRect hl) k) Q) := by
  unfold MaxTo
  iintro ⟨%f, %hf, H⟩ Hk
  have hv : (mM.access (Rect.unit (s := S1x192) off S1x192.size h)).read (Elt F) f = maxV X b := by
    funext j
    have h0 : (j 0).val < 1 := (j 0).isLt
    have h1 : (j 1).val < 192 := (j 1).isLt
    have e : j = ixC (j 1).val := by
      funext a
      match a with
      | ⟨0, _⟩ => exact Fin.ext (by show (j 0).val = 0; omega)
      | ⟨1, _⟩ => exact Fin.ext (by show (j 1).val = (j 1).val % 192; omega)
    have e' : (mM.access (Rect.unit (s := S1x192) off S1x192.size h)).emb j = ixC (j 1).val := by
      subst ho
      funext a
      match a with
      | ⟨0, _⟩ => exact Fin.ext (by show 0 + 1 * (j 0).val = 0; omega)
      | ⟨1, _⟩ => exact Fin.ext (by show 0 + 1 * (j 1).val = (j 1).val % 192; omega)
    show f ((mM.access (Rect.unit (s := S1x192) off S1x192.size h)).emb j) = _
    rw [e', hf _ h1, ← e]
  iapply (wp_load_rect (defs := defs₀) (Γ := ∅) 𝒱 (c : Thread nD τ) bd Set.univ (m := mM) (r := Rect.unit (s := S1x192) off S1x192.size h) (hl := hl) (q := fullShare) (f := f) (Finset.subset_univ _)) $$ H
  iintro H
  rw [hv]
  iapply Hk
  iexists f; isplitr
  · ipureintro; exact hf
  · iexact H

/-- A window read out of its slot. -/
theorem window_load (c : Dev nD) (X : XT F) (b : ℕ) (i : Fin 6) {off : Fin 3 → ℕ} (ho : off = ![32 * slot b i.val, 0, 0])
    {h : ∀ a, off a + S32x224x224.size a ≤ S225x224x224.size a} {hl} {α : Type} {k : Vec F S32x224x224 .f32 → Prog (TpuEff nD τ sig (Elt F) Λ₀ .tc) α} {Q : α → sProp 𝕄} :
    SlotFull c X b i.val ⊢ iprop((SlotFull c X b i.val -∗ wp frame (wpE defs₀ 𝒱 (c : Thread nD τ) bd) Set.univ (k (chunkV X b i.val)) Q)
      -∗ wp frame (wpE defs₀ 𝒱 (c : Thread nD τ) bd) Set.univ (.op (.load mA (Rect.unit (s := S225x224x224) off S32x224x224.size h).toLoadRect hl) k) Q) := by
  have hv : (mA.access (Rect.unit (s := S225x224x224) off S32x224x224.size h)).read (Elt F) (accV X b) = chunkV X b i.val := by
    funext j
    obtain ⟨a0, a1, a2⟩ := winA_emb ho h j
    have hj : (j 0).val < 32 := (j 0).isLt
    show accV X b ((winA off h).view.emb j) = X _
    rw [accV_slot X b i ⟨(j 0).val, hj⟩ _ a0, a1, a2]
  unfold SlotFull
  iintro H Hk
  iapply (wp_load_rect (defs := defs₀) (Γ := ∅) 𝒱 (c : Thread nD τ) bd Set.univ (le_of_eq (winA_set ho h))) $$ H
  iintro H
  rw [hv]
  iapply Hk
  iexact H

/-- The word of a row's maximum. -/
theorem max_word (X : XT F) (b i : ℕ) (hi : i < 6) (t : ℕ) (ht : t < 32) : k0_pay2 (chunkV X b i) (ixT t) = maxV X b (ixC (32 * i + t)) := by
  unfold maxV
  show _ = k0_pay2 (chunkV X b ((32 * i + t) % 192 / 32)) (ixT ((32 * i + t) % 192 % 32))
  rw [show (32 * i + t) % 192 / 32 = i by omega, show (32 * i + t) % 192 % 32 = t by omega]

/-! ## The table of planes to the scalar memory -/

/-- The table copied and waited for. -/
theorem table_copy (c : Dev nD) (X : XT F) (b : ℕ) {s : DmaSem sig} (hs : s = semS) {h1 h2 h3 h4 h5} {α : Type}
    {k : PUnit → Prog (TpuEff nD τ sig (Elt F) Λ₀ .tc) α} {Q : α → sProp 𝕄} :
    iprop(SrcTo c X b 192 ∗ (∃ f, ptR (F := F) c f) ∗ zeroAt c semS ∗ Owes (F := F) c)
      ⊢ iprop((iprop(SrcTo c X b 192 ∗ (∃ f, ⌜∀ ch, ch < 192 → f (ixC ch) = BitVec.ofNat 32 (srcP X b ch)⌝ ∗ ptR (F := F) c f) ∗ zeroAt c semS ∗ Owes (F := F) c)
          -∗ wp frame (wpE defs₀ 𝒱 (c : Thread nD τ) bd) Set.univ (k ⟨⟩) Q)
        -∗ wp frame (wpE defs₀ 𝒱 (c : Thread nD τ) bd) Set.univ
            (.op (.enqueueDma mS (.here mR) (.dma s) h1 h2 h3) fun _ => .op (.waitDma2 s mS mR h4 h5) k) Q) := by
  subst hs
  have hw : ∀ f g : IVec S1x192 32, (mR.view.write (Elt F) g ((ReadAs.same (s := S1x192) (e := .i32)).apply (mS.view.read (Elt F) f)) Finset.univ : IVec S1x192 32) = f :=
    fun f g => funext fun j => (View.write_emb_of_mem (v := mR.view) _ _ (Finset.mem_univ j)).trans rfl
  unfold SrcTo
  iintro ⟨⟨%f, %hf, HS⟩, ⟨%g, HR⟩, Hv, %W, HO⟩ Hk
  iapply (Transfers.wp_dmaLocal (countersEmb (U := Pipeline.UD sig nD τ)) 𝒱 (c : Thread nD τ) bd (src := mS) (dst := mR) (via := ReadAs.same (s := S1x192) (e := .i32))
    (q := fullShare) (Q := Q) (fs := f) (fd := g) () NS rfl NS_pos (Finset.subset_univ _)) $$ [HS HR Hv]
  · isplitl [HS]; · iexact HS
    isplitl [HR]; · iexact HR
    iexact Hv
  iintro HF
  iapply (Transfers.wp_waitLocal (countersEmb (U := Pipeline.UD sig nD τ)) 𝒱 (c : Thread nD τ) bd () (N := NS) rfl) $$ [HF HO]
  · isplitl [HF] <;> iassumption
  rw [hw f g]
  iintro ⟨⟨HR, HS⟩, Hv, HO⟩
  iapply Hk
  isplitl [HS]
  · iexists f; isplitr
    · ipureintro; exact hf
    · iexact HS
  isplitl [HR]
  · iexists f; isplitr
    · ipureintro; exact hf
    · iexact HR
  isplitl [Hv]; · iexact Hv
  iexists _; iexact HO

end Cert.Kernel.Hand
-- ==== Proof.Hand.Loop.lean ====
/-
  The loop over the channels: from the windows filled and free to all their planes on their way.
-/
module

public import proofs.«01_k».proof.Proof.Hand.Load

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-- A resource of each of the six windows. -/
abbrev six (Φ : Fin 6 → sProp 𝕄) : sProp 𝕄 := iprop(Φ 0 ∗ Φ 1 ∗ Φ 2 ∗ Φ 3 ∗ Φ 4 ∗ Φ 5)

/-- A conjunction over six, written out. -/
theorem six_eq (Φ : Fin 6 → sProp 𝕄) : bigSep Finset.univ Φ = six Φ := by
  rw [bigSep_univ_eq_bigSepL [0, 1, 2, 3, 4, 5] (by decide) (by decide)]
  rfl

/-- A window filled and free, taken up for the writing of its planes. -/
theorem mem_open (c : Dev nD) (X V : XT F) (b : ℕ) (i : Fin 6) :
    iprop(SlotFull c X b i.val ∗ Idle c X V b i) ⊢ iprop(|={Set.univ}=> Mem c X V b i 0) := by
  unfold Idle Mem
  have e := rw_all c X (outAt X V b) b i
  iintro ⟨HS, Hv, HT, HP⟩
  ihave HP' := (column c X V b i).1 $$ HP
  icases HP' with ⟨HP, HC⟩
  imod (Transfers.batch_alloc' (Lvl := ℕ) (countersEmb (U := Pipeline.UD sig nD τ)) (c : Thread nD τ) () NP (Dv c X V b i) (sm := .dma (semO i)) (E := Set.univ)) $$ Hv with HB
  imodintro
  rw [show min 32 (0 - 32 * i.val) = 0 by omega]
  isplitl [HB]; · iexact HB
  isplitr [HC]
  · rw [bigSep_congr (s := Finset.univ) (Ψ := fun t : Fin 32 => Rw c X (outAt X V b) b i t) fun t _ => if_neg (Nat.not_lt_zero _)]
    rw [e]
    isplitl [HP]; · iexact HP
    isplitl [HS] <;> iassumption
  · iexact HC

/-- All six windows' planes sent. -/
theorem loop_run (c : Dev nD) (X V : XT F) (i : grid0.Coords) (b : ℕ) (hi : (i 0).val = b) (f : IVec S1x192 32) (hf : ∀ ch, ch < 192 → f (ixC ch) = BitVec.ofNat 32 (srcP X b ch))
    {a1 a2 a3 a4 a5 a6} {α : Type} {k : PUnit → Prog (TpuEff nD τ sig (Elt F) Λ₀ .tc) α} {Q : α → sProp 𝕄} :
    iprop(ptR (F := F) c f ∗ six (fun j => iprop(SlotFull c X b j.val ∗ Idle c X V b j)))
      ⊢ iprop((iprop(ptR (F := F) c f ∗ six (fun j => Sent c X V b j)) -∗ wp frame (wpE defs₀ 𝒱 (c : Thread nD τ) bd) Set.univ (k ⟨⟩) Q)
        -∗ wp frame (wpE defs₀ 𝒱 (c : Thread nD τ) bd) Set.univ
          (Scf.Loop.for k0_t1_loop k0_t1_ok ⟨⟩ (k0_t1_body (F := F) i mX a1 mO a2 mA a3 mM a4 mS a5 mR a6 cc0_scratch4 cc0_scratch5 cc0_scratch6) >>= k) Q) := by
  iintro ⟨HR, H0, H1, H2, H3, H4, H5⟩ Hk
  imod (mem_open c X V b 0) $$ H0 with H0
  imod (mem_open c X V b 1) $$ H1 with H1
  imod (mem_open c X V b 2) $$ H2 with H2
  imod (mem_open c X V b 3) $$ H3 with H3
  imod (mem_open c X V b 4) $$ H4 with H4
  imod (mem_open c X V b 5) $$ H5 with H5
  iapply (Scf.wp_for_bind frame (wpE defs₀ 𝒱 (c : Thread nD τ) bd) Set.univ _ _ _ k0_t1_ok _ _ (fun n _ => Run c X V b f n) (fun k u => trip 𝒱 bd c X V i b hi f hf k u)) $$ [HR H0 H1 H2 H3 H4 H5]
  · unfold Run
    rw [six_eq]
    isplitl [HR]; · iexact HR
    isplitl [H0]; · iexact H0
    isplitl [H1]; · iexact H1
    isplitl [H2]; · iexact H2
    isplitl [H3]; · iexact H3
    isplitl [H4]; · iexact H4
    iexact H5
  iintro %u HR
  iapply Hk
  have e : Run c X V b f 192 ⊢ iprop(ptR (F := F) c f ∗ six (fun j => Sent c X V b j)) := by
    unfold Run
    rw [six_eq]
    simp only [sent_of_mem]
    exact .rfl
  iapply e
  iexact HR

end Cert.Kernel.Hand
-- ==== Proof.Hand.Parts.lean ====
/-
  The parts of the body, one after another: the windows asked for, awaited and reduced to their maxima, the ranks and the planes.
-/
module

public import proofs.«01_k».proof.Proof.Hand.Loop

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-! ## Where the copies and reads go -/

/-- Where window `r` arrives in the accumulator. -/
theorem off3_eq : ∀ (i : grid0.Coords) (r : Fin 6), k0_off3 i (BitVec.ofNat 32 r.val) = ![32 * slot (i 0).val r.val, 0, 0] := by decide +kernel
/-- Where window `r` is read back from the accumulator. -/
theorem off14_eq : ∀ (i : grid0.Coords) (r : Fin 6), k0_off14 i (BitVec.ofNat 32 r.val) = ![32 * slot (i 0).val r.val, 0, 0] := by decide +kernel
/-- Where window 1 lies in `x`. -/
theorem off4_eq : ∀ i : grid0.Coords, k0_off4 i = ![(i 0).val, 32 * 1, 0, 0] := by decide +kernel
/-- Where window 2 lies in `x`. -/
theorem off6_eq : ∀ i : grid0.Coords, k0_off6 i = ![(i 0).val, 32 * 2, 0, 0] := by decide +kernel
/-- Where window 3 lies in `x`. -/
theorem off8_eq : ∀ i : grid0.Coords, k0_off8 i = ![(i 0).val, 32 * 3, 0, 0] := by decide +kernel
/-- Where window 4 lies in `x`. -/
theorem off10_eq : ∀ i : grid0.Coords, k0_off10 i = ![(i 0).val, 32 * 4, 0, 0] := by decide +kernel
/-- Where window 5 lies in `x`. -/
theorem off12_eq : ∀ i : grid0.Coords, k0_off12 i = ![(i 0).val, 32 * 5, 0, 0] := by decide +kernel
/-- Where the very first window arrives. -/
theorem off1_eq : k0_off1 = ![32 * slot 0 0, 0, 0] := by decide +kernel
/-- Where the next image's first window arrives. -/
theorem off20_eq : ∀ i : grid0.Coords, k0_off20 i = ![32 * slot ((i 0).val + 1) 0, 0, 0] := by decide +kernel
/-- Where the next image's first window lies in `x`. -/
theorem off21_eq : ∀ i : grid0.Coords, k0_cond7 i = 1#1 → k0_off21 i = ![(i 0).val + 1, 32 * 0, 0, 0] := by decide +kernel

/-- The first condition: the first image. -/
theorem cond1_iff : ∀ i : grid0.Coords, k0_cond1 i = 1#1 ↔ (i 0).val = 0 := by decide +kernel
/-- Condition 2: not the first image. -/
theorem cond2_iff : ∀ i : grid0.Coords, k0_cond2 i = 1#1 ↔ (i 0).val ≠ 0 := by decide +kernel
/-- Condition 3: not the first image. -/
theorem cond3_iff : ∀ i : grid0.Coords, k0_cond3 i = 1#1 ↔ (i 0).val ≠ 0 := by decide +kernel
/-- Condition 4: not the first image. -/
theorem cond4_iff : ∀ i : grid0.Coords, k0_cond4 i = 1#1 ↔ (i 0).val ≠ 0 := by decide +kernel
/-- Condition 5: not the first image. -/
theorem cond5_iff : ∀ i : grid0.Coords, k0_cond5 i = 1#1 ↔ (i 0).val ≠ 0 := by decide +kernel
/-- Condition 6: not the first image. -/
theorem cond6_iff : ∀ i : grid0.Coords, k0_cond6 i = 1#1 ↔ (i 0).val ≠ 0 := by decide +kernel
/-- Condition 7: not the last image. -/
theorem cond7_iff : ∀ i : grid0.Coords, k0_cond7 i = 1#1 ↔ (i 0).val ≠ 7 := by decide +kernel
/-- Condition 8: the last image. -/
theorem cond8_iff : ∀ i : grid0.Coords, k0_cond8 i = 1#1 ↔ (i 0).val = 7 := by decide +kernel

/-! ## What is held from part to part -/

/-- Window `i` of image `b` not asked for yet; and once it is in. -/
def Wait (c : Dev nD) (X : XT F) (b : ℕ) (i : Fin 6) : sProp 𝕄 := iprop(zeroAt (F := F) c (semI i) ∗ ptX c (sX b (32 * i.val) 32) X)
def Got (c : Dev nD) (X : XT F) (b : ℕ) (i : Fin 6) : sProp 𝕄 :=
  iprop(SlotFull c X b i.val ∗ ptX c (sX b (32 * i.val) 32) X ∗ zeroAt c (semI i))

/-- What a free window gives out: its slot and the rest. -/
theorem free_out (c : Dev nD) (X V : XT F) (b : ℕ) (i : Fin 6) : Free c X V b i ⊢ iprop(SlotAny (F := F) c b (i.val + 1) ∗ Idle c X V b i) := .rfl

/-- The windows' waits and requests that fill the slots: the second part of the body from its first wait, -/
theorem part3_run (c : Dev nD) (X V : XT F) (i : grid0.Coords) (b : ℕ) (hi : (i 0).val = b) {a1 a2 a3 a4 a5 a6 w1 w2} {Q : _ → sProp 𝕄} :
    iprop(Pend c X V b 2 ∗ Pend c X V b 3 ∗ Pend c X V b 4 ∗ Wait c X b 3 ∗ Wait c X b 4 ∗ Owes (F := F) c)
      ⊢ iprop((∀ r, iprop(Idle c X V b 2 ∗ Idle c X V b 3 ∗ Free c X V b 4 ∗ Coming c X b 3 ∗ Coming c X b 4 ∗ Owes (F := F) c) -∗ Q r)
        -∗ wp frame (wpE defs₀ 𝒱 (c : Thread nD τ) bd) Set.univ (k0_part3 (F := F) i mX a1 mO a2 mA a3 mM a4 mS a5 mR a6 cc0_scratch4 cc0_scratch5 cc0_scratch6 w1 w2) Q) := by
  subst hi
  have hb : (i 0).val < 8 := (i 0).isLt
  rw [k0_part3_eq_skeleton]
  unfold k0_part3_skel
  unfold Wait
  iintro ⟨H2, H3, H4, ⟨Hv3, Hx3⟩, ⟨Hv4, Hx4⟩, HO⟩ Hk
  iapply (pend_wait 𝒱 bd c X V _ 2 (sem_out 2 _ rfl _) (cond4_iff i)) $$ [H2 HO]
  · isplitl [H2] <;> iassumption
  iintro ⟨HF, HO⟩
  ihave HF := (free_out c X V _ _) $$ HF
  icases HF with ⟨HS, H2⟩
  iapply (in_copy 𝒱 bd c X _ hb 3 (sem_in 3 _ rfl _) (off3_eq i 3) (off8_eq i)) $$ [Hv3 Hx3 HS]
  · isplitl [Hx3]; · iexact Hx3
    isplitl [HS]; · iexact HS
    iassumption
  iintro HC3
  simp only [ret_bind']
  iapply (pend_wait 𝒱 bd c X V _ 3 (sem_out 3 _ rfl _) (cond5_iff i)) $$ [H3 HO]
  · isplitl [H3] <;> iassumption
  iintro ⟨HF, HO⟩
  ihave HF := (free_out c X V _ _) $$ HF
  icases HF with ⟨HS, H3⟩
  iapply (in_copy 𝒱 bd c X _ hb 4 (sem_in 4 _ rfl _) (off3_eq i 4) (off10_eq i)) $$ [Hv4 Hx4 HS]
  · isplitl [Hx4]; · iexact Hx4
    isplitl [HS]; · iexact HS
    iassumption
  iintro HC4
  simp only [ret_bind']
  iapply (pend_wait 𝒱 bd c X V _ 4 (sem_out 4 _ rfl _) (cond6_iff i)) $$ [H4 HO]
  · isplitl [H4] <;> iassumption
  iintro ⟨H4, HO⟩
  sl_step
  iapply Hk
  isplitl [H2]; · iexact H2
  isplitl [H3]; · iexact H3
  isplitl [H4]; · iexact H4
  isplitl [HC3]; · iexact HC3
  isplitl [HC4] <;> iassumption

/-- the last window asked for, the first one in and reduced; -/
theorem part4_run (c : Dev nD) (X V : XT F) (i : grid0.Coords) (b : ℕ) (hi : (i 0).val = b) {a1 a2 a3 a4 a5 a6 w0 w1 w2} {Q : _ → sProp 𝕄} :
    iprop(SlotAny (F := F) c b 5 ∗ Wait c X b 5 ∗ Coming c X b 0 ∗ MaxTo c X b (32 * 0) ∗ Owes (F := F) c)
      ⊢ iprop((∀ r, iprop(Coming c X b 5 ∗ Got c X b 0 ∗ MaxTo c X b (32 * 1) ∗ Owes (F := F) c) -∗ Q r)
        -∗ wp frame (wpE defs₀ 𝒱 (c : Thread nD τ) bd) Set.univ (k0_part4 (F := F) i mX a1 mO a2 mA a3 mM a4 mS a5 mR a6 cc0_scratch4 cc0_scratch5 cc0_scratch6 w0 w1 w2) Q) := by
  subst hi
  have hb : (i 0).val < 8 := (i 0).isLt
  rw [k0_part4_eq_skeleton]
  unfold k0_part4_skel
  unfold Wait
  iintro ⟨HS, ⟨Hv, Hx⟩, HC0, HM, HO⟩ Hk
  iapply (in_copy 𝒱 bd c X _ hb 5 (sem_in 5 _ rfl _) (off3_eq i 5) (off12_eq i)) $$ [Hv Hx HS]
  · isplitl [Hx]; · iexact Hx
    isplitl [HS]; · iexact HS
    iexact Hv
  iintro HC5
  simp only [ret_bind']
  iapply (in_wait 𝒱 bd c X _ 0 (sem_in 0 _ rfl _)) $$ [HC0 HO]
  · isplitl [HC0] <;> iassumption
  iintro ⟨HS0, HX0, HV0, HO⟩
  simp only [ret_bind']
  iapply (window_load 𝒱 bd c X _ 0 (off14_eq i 0)) $$ HS0
  iintro HS0
  iapply (skip_M 𝒱 bd c X _ (32 * 0)) $$ HM
  iintro %v HM
  iapply (put_M 𝒱 bd c X _ 0 (by decide) rfl (fun t ht => max_word X _ 0 (by decide) t ht)) $$ HM
  iintro HM
  simp only [ret_bind']
  sl_step
  iapply Hk
  isplitl [HC5]; · iexact HC5
  isplitl [HS0 HX0 HV0]
  · unfold Got; isplitl [HS0]; · iexact HS0
    isplitl [HX0]; · iexact HX0
    iexact HV0
  isplitl [HM]; · iexact HM
  iexact HO

/-- the second in and reduced, the third in; -/
theorem part5_run (c : Dev nD) (X V : XT F) (i : grid0.Coords) (b : ℕ) (hi : (i 0).val = b) {a1 a2 a3 a4 a5 a6 w0 w1 w2} {Q : _ → sProp 𝕄} :
    iprop(Coming c X b 1 ∗ Coming c X b 2 ∗ MaxTo c X b (32 * 1) ∗ Owes (F := F) c)
      ⊢ iprop((∀ r, iprop(Got c X b 1 ∗ Got c X b 2 ∗ MaxTo c X b (32 * 2) ∗ Owes (F := F) c) -∗ Q r)
        -∗ wp frame (wpE defs₀ 𝒱 (c : Thread nD τ) bd) Set.univ (k0_part5 (F := F) i mX a1 mO a2 mA a3 mM a4 mS a5 mR a6 cc0_scratch4 cc0_scratch5 cc0_scratch6 w0 w1 w2) Q) := by
  subst hi
  have hb : (i 0).val < 8 := (i 0).isLt
  rw [k0_part5_eq_skeleton]
  unfold k0_part5_skel
  iintro ⟨HC1, HC2, HM, HO⟩ Hk
  iapply (in_wait 𝒱 bd c X _ 1 (sem_in 1 _ rfl _)) $$ [HC1 HO]
  · isplitl [HC1] <;> iassumption
  iintro ⟨HS1, HX1, HV1, HO⟩
  simp only [ret_bind']
  iapply (window_load 𝒱 bd c X _ 1 (off14_eq i 1)) $$ HS1
  iintro HS1
  iapply (skip_M 𝒱 bd c X _ (32 * 1)) $$ HM
  iintro %v HM
  iapply (put_M 𝒱 bd c X _ 1 (by decide) rfl (fun t ht => max_word X _ 1 (by decide) t ht)) $$ HM
  iintro HM
  simp only [ret_bind']
  iapply (in_wait 𝒱 bd c X _ 2 (sem_in 2 _ rfl _)) $$ [HC2 HO]
  · isplitl [HC2] <;> iassumption
  iintro ⟨HS2, HX2, HV2, HO⟩
  simp only [ret_bind']
  sl_step
  iapply Hk
  isplitl [HS1 HX1 HV1]
  · unfold Got; isplitl [HS1]; · iexact HS1
    isplitl [HX1]; · iexact HX1
    iexact HV1
  isplitl [HS2 HX2 HV2]
  · unfold Got; isplitl [HS2]; · iexact HS2
    isplitl [HX2]; · iexact HX2
    iexact HV2
  isplitl [HM]; · iexact HM
  iexact HO

/-- the third reduced, the fourth in and reduced; -/
theorem part6_run (c : Dev nD) (X V : XT F) (i : grid0.Coords) (b : ℕ) (hi : (i 0).val = b) {a1 a2 a3 a4 a5 a6 w0 w1 w2} {Q : _ → sProp 𝕄} :
    iprop(Got c X b 2 ∗ Coming c X b 3 ∗ MaxTo c X b (32 * 2) ∗ Owes (F := F) c)
      ⊢ iprop((∀ r, iprop(Got c X b 2 ∗ Got c X b 3 ∗ MaxTo c X b (32 * 4) ∗ Owes (F := F) c) -∗ Q r)
        -∗ wp frame (wpE defs₀ 𝒱 (c : Thread nD τ) bd) Set.univ (k0_part6 (F := F) i mX a1 mO a2 mA a3 mM a4 mS a5 mR a6 cc0_scratch4 cc0_scratch5 cc0_scratch6 w0 w1 w2) Q) := by
  subst hi
  have hb : (i 0).val < 8 := (i 0).isLt
  rw [k0_part6_eq_skeleton]
  unfold k0_part6_skel
  unfold Got
  iintro ⟨⟨HS2, HX2, HV2⟩, HC3, HM, HO⟩ Hk
  iapply (window_load 𝒱 bd c X _ 2 (off14_eq i 2)) $$ HS2
  iintro HS2
  iapply (skip_M 𝒱 bd c X _ (32 * 2)) $$ HM
  iintro %v HM
  iapply (put_M 𝒱 bd c X _ 2 (by decide) rfl (fun t ht => max_word X _ 2 (by decide) t ht)) $$ HM
  iintro HM
  simp only [ret_bind']
  iapply (in_wait 𝒱 bd c X _ 3 (sem_in 3 _ rfl _)) $$ [HC3 HO]
  · isplitl [HC3] <;> iassumption
  iintro ⟨HS3, HX3, HV3, HO⟩
  simp only [ret_bind']
  iapply (window_load 𝒱 bd c X _ 3 (off14_eq i 3)) $$ HS3
  iintro HS3
  iapply (skip_M 𝒱 bd c X _ (32 * 3)) $$ HM
  iintro %v HM
  iapply (put_M 𝒱 bd c X _ 3 (by decide) rfl (fun t ht => max_word X _ 3 (by decide) t ht)) $$ HM
  iintro HM
  simp only [ret_bind']
  sl_step
  iapply Hk
  isplitl [HS2 HX2 HV2]
  · isplitl [HS2]; · iexact HS2
    isplitl [HX2]; · iexact HX2
    iexact HV2
  isplitl [HS3 HX3 HV3]
  · isplitl [HS3]; · iexact HS3
    isplitl [HX3]; · iexact HX3
    iexact HV3
  isplitl [HM]; · iexact HM
  iexact HO

/-- the fifth in and reduced, the sixth in; -/
theorem part7_run (c : Dev nD) (X V : XT F) (i : grid0.Coords) (b : ℕ) (hi : (i 0).val = b) {a1 a2 a3 a4 a5 a6 w0 w1 w2} {Q : _ → sProp 𝕄} :
    iprop(Coming c X b 4 ∗ Coming c X b 5 ∗ MaxTo c X b (32 * 4) ∗ Owes (F := F) c)
      ⊢ iprop((∀ r, iprop(Got c X b 4 ∗ Got c X b 5 ∗ MaxTo c X b (32 * 5) ∗ Owes (F := F) c) -∗ Q r)
        -∗ wp frame (wpE defs₀ 𝒱 (c : Thread nD τ) bd) Set.univ (k0_part7 (F := F) i mX a1 mO a2 mA a3 mM a4 mS a5 mR a6 cc0_scratch4 cc0_scratch5 cc0_scratch6 w0 w1 w2) Q) := by
  subst hi
  have hb : (i 0).val < 8 := (i 0).isLt
  rw [k0_part7_eq_skeleton]
  unfold k0_part7_skel
  iintro ⟨HC4, HC5, HM, HO⟩ Hk
  iapply (in_wait 𝒱 bd c X _ 4 (sem_in 4 _ rfl _)) $$ [HC4 HO]
  · isplitl [HC4] <;> iassumption
  iintro ⟨HS4, HX4, HV4, HO⟩
  simp only [ret_bind']
  iapply (window_load 𝒱 bd c X _ 4 (off14_eq i 4)) $$ HS4
  iintro HS4
  iapply (skip_M 𝒱 bd c X _ (32 * 4)) $$ HM
  iintro %v HM
  iapply (put_M 𝒱 bd c X _ 4 (by decide) rfl (fun t ht => max_word X _ 4 (by decide) t ht)) $$ HM
  iintro HM
  simp only [ret_bind']
  iapply (in_wait 𝒱 bd c X _ 5 (sem_in 5 _ rfl _)) $$ [HC5 HO]
  · isplitl [HC5] <;> iassumption
  iintro ⟨HS5, HX5, HV5, HO⟩
  simp only [ret_bind']
  sl_step
  iapply Hk
  isplitl [HS4 HX4 HV4]
  · unfold Got; isplitl [HS4]; · iexact HS4
    isplitl [HX4]; · iexact HX4
    iexact HV4
  isplitl [HS5 HX5 HV5]
  · unfold Got; isplitl [HS5]; · iexact HS5
    isplitl [HX5]; · iexact HX5
    iexact HV5
  isplitl [HM]; · iexact HM
  iexact HO

/-- the sixth reduced, and the ranks of all the maxima; -/
theorem part8_run (c : Dev nD) (X V : XT F) (i : grid0.Coords) (b : ℕ) (hi : (i 0).val = b) {a1 a2 a3 a4 a5 a6 w0 w1 w2} {Q : _ → sProp 𝕄} :
    iprop(Got c X b 5 ∗ MaxTo c X b (32 * 5) ∗ SrcTo c X b (32 * 0))
      ⊢ iprop((iprop(Got c X b 5 ∗ MaxTo c X b (32 * 6) ∗ SrcTo c X b (32 * 0)) -∗ Q ⟨rankV X b, iotaT, k0_pay9 w0 (maxV X b)⟩)
        -∗ wp frame (wpE defs₀ 𝒱 (c : Thread nD τ) bd) Set.univ (k0_part8 (F := F) i mX a1 mO a2 mA a3 mM a4 mS a5 mR a6 cc0_scratch4 cc0_scratch5 cc0_scratch6 w0 w1 w2) Q) := by
  subst hi
  have hb : (i 0).val < 8 := (i 0).isLt
  rw [k0_part8_eq_skeleton]
  unfold k0_part8_skel
  unfold Got
  iintro ⟨⟨HS5, HX5, HV5⟩, HM, HN⟩ Hk
  iapply (window_load 𝒱 bd c X _ 5 (off14_eq i 5)) $$ HS5
  iintro HS5
  iapply (skip_M 𝒱 bd c X _ (32 * 5)) $$ HM
  iintro %v HM
  iapply (put_M 𝒱 bd c X _ 5 (by decide) rfl (fun t ht => max_word X _ 5 (by decide) t ht)) $$ HM
  iintro HM
  simp only [ret_bind']
  iapply (all_M 𝒱 bd c X _ rfl) $$ HM
  iintro HM
  iapply (skip_S 𝒱 bd c X _ (32 * 0)) $$ HN
  iintro %v HN
  simp only [ret_bind']
  sl_step
  rw [show k0_pay8 (maxV X (i 0).val) = rankV X (i 0).val from rfl]
  iapply Hk
  isplitl [HS5 HX5 HV5]
  · isplitl [HS5]; · iexact HS5
    isplitl [HX5]; · iexact HX5
    iexact HV5
  isplitl [HM]; · iexact HM
  iexact HN

/-- The word of a channel of window `w`. -/
theorem src_word (X : XT F) (b : ℕ) (hb : b < 8) (w : Fin 6) (t : ℕ) (ht : t < 32) :
    wordOf (BitVec.ofNat 32 b) (BitVec.ofNat 32 w.val) (rankV X b (ixC (32 * w.val + t % 32))) (t % 32) = BitVec.ofNat 32 (srcP X b (32 * w.val + t)) := by
  have hw := w.isLt
  rw [Nat.mod_eq_of_lt ht]
  refine (wordOf_eq ⟨b, hb⟩ w _ t).trans ?_
  unfold srcP sel
  rw [show (32 * w.val + t) / 32 = w.val by omega, show (32 * w.val + t) % 32 = t by omega]

/-- the planes of the first three windows; -/
theorem part9_run (c : Dev nD) (X V : XT F) (i : grid0.Coords) (b : ℕ) (hi : (i 0).val = b) {a1 a2 a3 a4 a5 a6 } {Q : _ → sProp 𝕄} :
    iprop(SrcTo c X b (32 * 0))
      ⊢ iprop((SrcTo c X b (32 * 3) -∗ Q ⟨k0_pay12 (rankV X b), Scalar.remsi (Scalar.addi (Scalar.muli (BitVec.ofNat 32 b) 6#32) 3#32) 7#32, 32#32⟩)
        -∗ wp frame (wpE defs₀ 𝒱 (c : Thread nD τ) bd) Set.univ (k0_part9 (F := F) i mX a1 mO a2 mA a3 mM a4 mS a5 mR a6 cc0_scratch4 cc0_scratch5 cc0_scratch6 (BitVec.ofNat 32 b) (rankV X b) iotaT (k0_pay9 (BitVec.ofNat 32 b) (maxV X b))) Q) := by
  subst hi
  have hb : (i 0).val < 8 := (i 0).isLt
  rw [k0_part9_eq_skeleton]
  unfold k0_part9_skel
  iintro HN Hk
  iapply (put_S 𝒱 bd c X _ 0 (by decide) rfl (fun t ht => (word9 (BitVec.ofNat 32 (i 0).val) (maxV X _) (ixT t)).trans (src_word X _ hb 0 t ht))) $$ HN
  iintro HN
  simp only [ret_bind']
  iapply (skip_S 𝒱 bd c X _ (32 * 1)) $$ HN
  iintro %v HN
  simp only [ret_bind']
  iapply (put_S 𝒱 bd c X _ 1 (by decide) rfl (fun t ht => (word10 (BitVec.ofNat 32 (i 0).val) (rankV X _) (ixT t)).trans (src_word X _ hb 1 t ht))) $$ HN
  iintro HN
  simp only [ret_bind']
  iapply (skip_S 𝒱 bd c X _ (32 * 2)) $$ HN
  iintro %v HN
  simp only [ret_bind']
  iapply (put_S 𝒱 bd c X _ 2 (by decide) rfl (fun t ht => (word11 (BitVec.ofNat 32 (i 0).val) (rankV X _) (ixT t)).trans (src_word X _ hb 2 t ht))) $$ HN
  iintro HN
  simp only [ret_bind']
  sl_step
  iapply Hk
  iexact HN

/-- and those of the next two. -/
theorem part10_run (c : Dev nD) (X V : XT F) (i : grid0.Coords) (b : ℕ) (hi : (i 0).val = b) {a1 a2 a3 a4 a5 a6 } {Q : _ → sProp 𝕄} :
    iprop(SrcTo c X b (32 * 3))
      ⊢ iprop((SrcTo c X b (32 * 5) -∗ Q (k0_pay15 (BitVec.ofNat 32 b) (rankV X b) iotaT))
        -∗ wp frame (wpE defs₀ 𝒱 (c : Thread nD τ) bd) Set.univ (k0_part10 (F := F) i mX a1 mO a2 mA a3 mM a4 mS a5 mR a6 cc0_scratch4 cc0_scratch5 cc0_scratch6 (BitVec.ofNat 32 b) (rankV X b) iotaT (k0_pay12 (rankV X b)) (Scalar.remsi (Scalar.addi (Scalar.muli (BitVec.ofNat 32 b) 6#32) 3#32) 7#32) 32#32) Q) := by
  subst hi
  have hb : (i 0).val < 8 := (i 0).isLt
  rw [k0_part10_eq_skeleton]
  unfold k0_part10_skel
  iintro HN Hk
  iapply (skip_S 𝒱 bd c X _ (32 * 3)) $$ HN
  iintro %v HN
  simp only [ret_bind']
  iapply (put_S 𝒱 bd c X _ 3 (by decide) rfl (fun t ht => (word13 (BitVec.ofNat 32 (i 0).val) (rankV X _) (ixT t)).trans (src_word X _ hb 3 t ht))) $$ HN
  iintro HN
  simp only [ret_bind']
  iapply (skip_S 𝒱 bd c X _ (32 * 4)) $$ HN
  iintro %v HN
  simp only [ret_bind']
  iapply (put_S 𝒱 bd c X _ 4 (by decide) rfl (fun t ht => (word14 (BitVec.ofNat 32 (i 0).val) (rankV X _) (ixT t)).trans (src_word X _ hb 4 t ht))) $$ HN
  iintro HN
  simp only [ret_bind']
  iapply (skip_S 𝒱 bd c X _ (32 * 5)) $$ HN
  iintro %v HN
  simp only [ret_bind']
  sl_step
  iapply Hk
  iexact HN

end Cert.Kernel.Hand
-- ==== Proof.Hand.Split.lean ====
/-
  The buffers whole and in the parts the windows hold, and the state at the top of every image.
-/
module

public import proofs.«01_k».proof.Proof.Hand.Parts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-! ## Whole buffers and their parts -/

/-- Planes of the accumulator at any contents. -/
def anyA (c : Dev nD) (lo n : ℕ) : sProp 𝕄 := iprop(∃ f, ptA (F := F) c (sA lo n) fullShare f)

/-- A run of planes with any contents, cut in two. -/
theorem any_split (c : Dev nD) (lo n m : ℕ) : anyA (F := F) c lo (n + m) ⊢ iprop(anyA (F := F) c lo n ∗ anyA (F := F) c (lo + n) m) := by
  unfold anyA
  rw [← sA_union]
  iintro ⟨%f, H⟩
  ihave H' := (pointsTo_union (sA_disjoint (Or.inl (le_refl _)))).1 $$ H
  icases H' with ⟨H1, H2⟩
  isplitl [H1]
  · iexists f; iexact H1
  · iexists f; iexact H2

/-- Two adjacent runs of planes with any contents, joined. -/
theorem any_join (c : Dev nD) (lo n m : ℕ) : iprop(anyA (F := F) c lo n ∗ anyA (F := F) c (lo + n) m) ⊢ anyA (F := F) c lo (n + m) := by
  unfold anyA
  rw [← sA_union]
  iintro ⟨⟨%f, H1⟩, ⟨%g, H2⟩⟩
  iexists (sA (lo + n) m).piecewise g f
  iapply (pointsTo_join (ℓ := (c : Thread nD τ).loc cc0_scratch0) (sA_disjoint (Or.inl (le_refl _))))
  isplitl [H1] <;> iassumption

/-- The 224 planes are the seven slots. -/
theorem slots_split (c : Dev nD) : anyA (F := F) c 0 224 ⊢ iprop(anyA (F := F) c 0 32 ∗ anyA (F := F) c 32 32 ∗ anyA (F := F) c 64 32 ∗ anyA (F := F) c 96 32
    ∗ anyA (F := F) c 128 32 ∗ anyA (F := F) c 160 32 ∗ anyA (F := F) c 192 32) :=
  (any_split c 0 32 192).trans <| sep_mono .rfl <| (any_split c 32 32 160).trans <| sep_mono .rfl <| (any_split c 64 32 128).trans <| sep_mono .rfl <|
    (any_split c 96 32 96).trans <| sep_mono .rfl <| (any_split c 128 32 64).trans <| sep_mono .rfl <| any_split c 160 32 32

/-- The seven slots, with any contents, joined. -/
theorem slots_join (c : Dev nD) : iprop(anyA (F := F) c 0 32 ∗ anyA (F := F) c 32 32 ∗ anyA (F := F) c 64 32 ∗ anyA (F := F) c 96 32
    ∗ anyA (F := F) c 128 32 ∗ anyA (F := F) c 160 32 ∗ anyA (F := F) c 192 32) ⊢ anyA (F := F) c 0 224 :=
  (sep_mono .rfl <| (sep_mono .rfl <| (sep_mono .rfl <| (sep_mono .rfl <| (sep_mono .rfl <| any_join c 160 32 32).trans (any_join c 128 32 64)).trans
    (any_join c 96 32 96)).trans (any_join c 64 32 128)).trans (any_join c 32 32 160)).trans (any_join c 0 32 192)

/-- A slot with any contents, by its first plane. -/
theorem slotAny_eq (c : Dev nD) (b i n : ℕ) (h : 32 * slot b i = n) : SlotAny (F := F) c b i = anyA c n 32 := by subst h; rfl

/-- The zero plane: what stays behind, and a share for every channel. -/
def Zrest (c : Dev nD) : sProp 𝕄 := ptA (F := F) c (sA 224 1) (Transfers.shareDrop fullShare 192) zA

/-- The 192 shares of the zero plane, grouped by window. -/
theorem toks_eq (c : Dev nD) : (bigSep Finset.univ fun n : Fin 192 => ptA (F := F) c (sA 224 1) (tok n.val) zA) = six (fun i => Toks (F := F) c i) := by
  rw [← six_eq]
  unfold Toks
  rw [← bigSep_univ_prod (fun p : Fin 6 × Fin 32 => ptA (F := F) c (sA 224 1) (tok (chan p.1 p.2)) zA)]
  have e : (Finset.univ : Finset (Fin 192)) = (Finset.univ : Finset (Fin 6 × Fin 32)).map (finProdFinEquiv (m := 6) (n := 32)).toEmbedding := by
    rw [Finset.map_univ_equiv]
  rw [e, bigSep_map]
  refine bigSep_congr fun p _ => ?_
  show ptA (F := F) c (sA 224 1) (tok (p.2.val + 32 * p.1.val)) zA = ptA c (sA 224 1) (tok (32 * p.1.val + p.2.val)) zA
  rw [Nat.add_comm]

/-- The zero plane, shared out among the channels with a share left over. -/
theorem zero_split (c : Dev nD) : ptA (F := F) c (sA 224 1) fullShare zA ⊢ iprop(Zrest (F := F) c ∗ six (fun i => Toks (F := F) c i)) := by
  unfold Zrest
  rw [← toks_eq]
  exact Transfers.pointsTo_toks_split fullShare 192

/-- The shares of the zero plane, gathered. -/
theorem zero_join (c : Dev nD) : iprop(Zrest (F := F) c ∗ six (fun i => Toks (F := F) c i)) ⊢ ptA (F := F) c (sA 224 1) fullShare zA := by
  unfold Zrest
  rw [← toks_eq]
  exact Transfers.pointsTo_toks_join fullShare 192

/-- `x` is image `b`'s six windows and the other images. -/
def XRest (c : Dev nD) (X : XT F) (b : ℕ) : sProp 𝕄 := ptX c (Finset.univ \ sX b 0 192) X

/-- The six windows of an image cover it. -/
theorem windows_union (b : ℕ) : (Finset.univ : Finset (Fin 6)).biUnion (fun i => sX b (32 * i.val) 32) = sX b 0 192 := by
  ext j
  simp only [Finset.mem_biUnion, Finset.mem_univ, true_and, mem_sX]
  constructor
  · rintro ⟨i, h⟩; have := i.isLt; omega
  · intro h
    exact ⟨⟨(j 1).val / 32, by omega⟩, by show _ ∧ 32 * ((j 1).val / 32) ≤ _ ∧ _ < 32 * ((j 1).val / 32) + 32; omega⟩

/-- An image of `x` is its six windows. -/
theorem x_windows (c : Dev nD) (X : XT F) (b : ℕ) : ptX c (sX b 0 192) X = (six fun i => ptX c (sX b (32 * i.val) 32) X : sProp 𝕄) := by
  rw [← six_eq, ← windows_union]
  exact pointsTo_biUnion (ℓ := (c : Thread nD τ).loc main_arg0) _ _ fun t _ t' _ h => sX_disjoint (by have : t.val ≠ t'.val := fun e => h (Fin.ext e); omega)

/-- `x` is one image's windows and the other images. -/
theorem x_split (c : Dev nD) (X : XT F) (b : ℕ) : (ptX c Finset.univ X : sProp 𝕄) ⊣⊢ iprop((six fun i => ptX c (sX b (32 * i.val) 32) X) ∗ XRest c X b) := by
  rw [← x_windows]
  exact pointsTo_split_subset (Finset.subset_univ _)

/-- The result is its six columns. -/
theorem columns_union : (Finset.univ : Finset (Fin 6)).biUnion sC = Finset.univ := by
  ext j
  simp only [Finset.mem_biUnion, Finset.mem_univ, true_and, mem_sC, iff_true]
  have h : (j 1).val < 192 := (j 1).isLt
  exact ⟨⟨(j 1).val / 32, by omega⟩, rfl⟩

/-- The result is its six column windows. -/
theorem o_columns (c : Dev nD) (o : XT F) : ptO c Finset.univ o = (six fun i => ptO c (sC i) o : sProp 𝕄) := by
  rw [← six_eq, ← columns_union]
  refine pointsTo_biUnion (ℓ := (c : Thread nD τ).loc main_v0) _ _ fun t _ t' _ h => ?_
  rw [Finset.disjoint_left]
  intro j h1 h2
  rw [mem_sC] at h1 h2
  exact h (Fin.ext (h1.symm.trans h2))

/-- Before the first image the result holds what it held. -/
theorem outAt_zero (X V : XT F) : outAt X V 0 = V := by
  funext j; unfold outAt; rw [if_neg (Nat.not_lt_zero _)]

/-- After the last image the result is the value claimed. -/
theorem outAt_all (X V : XT F) : outAt X V 8 = resV X := by
  funext j; unfold outAt; exact if_pos (show (j 0).val < 8 from (j 0).isLt)

/-! ## The state at the top of an image -/

/-- The rows at any contents. -/
def Rows (c : Dev nD) : sProp 𝕄 := iprop((∃ f, ptM (F := F) c f) ∗ (∃ f, ptS (F := F) c f) ∗ (∃ f, ptR (F := F) c f))

/-- All semaphores at zero. -/
def Zeros (c : Dev nD) : sProp 𝕄 := iprop((six fun i => zeroAt (F := F) c (semI i)) ∗ (six fun i => zeroAt (F := F) c (semO i)) ∗ zeroAt c semS)

/-- Nothing on its way, the result at `o`: before the first image and after the last. -/
def Raw (c : Dev nD) (X o : XT F) : sProp 𝕄 :=
  iprop((∃ f, ptA (F := F) c Finset.univ fullShare f) ∗ Rows (F := F) c ∗ Zeros (F := F) c ∗ ptX c Finset.univ X ∗ ptO c Finset.univ o)

/-- Image `b` begun: its first window asked for. -/
def Begun (c : Dev nD) (X V : XT F) (b : ℕ) : sProp 𝕄 :=
  iprop(Coming c X b 0 ∗ (Wait c X b 1 ∗ Wait c X b 2 ∗ Wait c X b 3 ∗ Wait c X b 4 ∗ Wait c X b 5)
    ∗ (Pend c X V b 0 ∗ Pend c X V b 1 ∗ Pend c X V b 2 ∗ Pend c X V b 3 ∗ Pend c X V b 4) ∗ Free c X V b 5
    ∗ Rows (F := F) c ∗ zeroAt c semS ∗ Zrest (F := F) c ∗ XRest c X b)

def Top (c : Dev nD) (X V : XT F) (b : ℕ) : sProp 𝕄 := if b = 0 then Raw c X V else if b = 8 then Raw c X (resV X) else Begun c X V b

/-- The zero plane written into the accumulator. -/
theorem zero_written (f : AT F) {off : Fin 3 → ℕ} (ho : off = ![224, 0, 0]) (h : ∀ a, off a + S1x224x224.size a ≤ S225x224x224.size a) :
    ∀ j ∈ sA 224 1, ((mA.access (Rect.unit (s := S225x224x224) off S1x224x224.size h)).write (Elt F) f (k0_pay1 (F := F)) Finset.univ : AT F) j = zA j := by
  intro j hj
  rw [← plA_set ho h] at hj
  obtain ⟨k, -, rfl⟩ := Finset.mem_map.mp hj
  exact (View.write_emb_of_mem (v := mA.access (Rect.unit (s := S225x224x224) off S1x224x224.size h)) _ _ (Finset.mem_univ k)).trans (pay1_eq k)

/-- The first image's beginning, which the others do not make. -/
theorem begin_run (c : Dev nD) (X V : XT F) (b : ℕ) (hb : b < 8) {C : Prop} [Decidable C] (hC : C ↔ b = 0)
    {s : DmaSem sig} (hs : s = semI 0) {off : Fin 3 → ℕ} (ho : off = ![224, 0, 0]) {h : ∀ a, off a + S1x224x224.size a ≤ S225x224x224.size a} {hl hx hm}
    {offA : C → Fin 3 → ℕ} (oA : ∀ h, offA h = ![32 * slot 0 0, 0, 0]) {hA : ∀ h a, offA h a + S32x224x224.size a ≤ S225x224x224.size a}
    {offX : Fin 4 → ℕ} (oX : offX = ![0, 32 * 0, 0, 0]) {hX : ∀ a, offX a + S1x32x224x224.size a ≤ S8x192x224x224.size a}
    {h1 : (winX mX offX hX).view.WordExact} {h2 : ∀ h, (winA (offA h) (hA h)).view.WordExact}
    {α : Type} {p : Prog (TpuEff nD τ sig (Elt F) Λ₀ .tc) α} {Q : α → sProp 𝕄} :
    Top c X V b
      ⊢ iprop((Begun c X V b -∗ wp frame (wpE defs₀ 𝒱 (c : Thread nD τ) bd) Set.univ p Q)
        -∗ wp frame (wpE defs₀ 𝒱 (c : Thread nD τ) bd) Set.univ
          (if h' : C then (.op (.load mA (Rect.unit (s := S225x224x224) off S1x224x224.size h).toLoadRect hl) fun _ =>
              .op (.store mA (Rect.unit (s := S225x224x224) off S1x224x224.size h) (k0_pay1 (F := F)) Finset.univ hx hm) fun _ =>
              .op (.enqueueDma (winX mX offX hX) (.here (winA (offA h') (hA h'))) (.dma s) h1 (h2 h') ⟨Or.inl rfl, trivial⟩) fun _ => p) else p) Q) := by
  by_cases hc : C
  · rw [dif_pos hc]
    have h0 := hC.mp hc
    subst h0
    have eA : ∀ f : AT F, ptA c (sA 224 1) fullShare ((mA.access (Rect.unit (s := S225x224x224) off S1x224x224.size h)).write (Elt F) f (k0_pay1 (F := F)) Finset.univ)
        = (ptA c (sA 224 1) fullShare zA : sProp 𝕄) := fun f => pointsTo_congr (zero_written f ho h)
    unfold Top
    rw [if_pos rfl]
    unfold Raw Zeros
    iintro ⟨⟨%f, HA⟩, HR, ⟨⟨I0, I1, I2, I3, I4, I5⟩, ⟨O0, O1, O2, O3, O4, O5⟩, HZ⟩, HX, HO⟩ Hk
    iapply (wp_load_rect (defs := defs₀) (Γ := ∅) 𝒱 (c : Thread nD τ) bd Set.univ (m := mA) (r := Rect.unit (s := S225x224x224) off S1x224x224.size h) (hl := hl)
      (q := fullShare) (f := f) (Finset.subset_univ _)) $$ HA
    iintro HA
    iapply (wp_store (defs := defs₀) (Γ := ∅) 𝒱 (c : Thread nD τ) bd Set.univ (m := mA) (r := Rect.unit (s := S225x224x224) off S1x224x224.size h)
      (f := f) (Finset.subset_univ _)) $$ HA
    iintro HA
    ihave HA' := (of_eq (show ptA c Finset.univ fullShare _ = (ptA c (sA 0 224 ∪ sA (0 + 224) 1) fullShare _ : sProp 𝕄) by rw [sA_union, sA_univ])) $$ HA
    ihave HA' := (pointsTo_union (ℓ := (c : Thread nD τ).loc cc0_scratch0) (sA_disjoint (Or.inl (le_refl _)))).1 $$ HA'
    icases HA' with ⟨HA, Hz⟩
    ihave Hz := (of_eq (eA f)) $$ Hz
    ihave Hz := (zero_split c) $$ Hz
    icases Hz with ⟨Hz, T0, T1, T2, T3, T4, T5⟩
    ihave HA := (show (ptA (F := F) c (sA 0 224) fullShare _ : sProp 𝕄) ⊢ anyA (F := F) c 0 224 by
      unfold anyA; iintro H; iexists _; iexact H) $$ HA
    ihave HA := (slots_split c) $$ HA
    icases HA with ⟨S0, S1, S2, S3, S4, S5, S6⟩
    ihave S0 := (of_eq (slotAny_eq (F := F) c 0 0 0 (by decide)).symm) $$ S0
    ihave S1 := (of_eq (slotAny_eq (F := F) c 0 1 32 (by decide)).symm) $$ S1
    ihave S2 := (of_eq (slotAny_eq (F := F) c 0 2 64 (by decide)).symm) $$ S2
    ihave S3 := (of_eq (slotAny_eq (F := F) c 0 3 96 (by decide)).symm) $$ S3
    ihave S4 := (of_eq (slotAny_eq (F := F) c 0 4 128 (by decide)).symm) $$ S4
    ihave S5 := (of_eq (slotAny_eq (F := F) c 0 5 160 (by decide)).symm) $$ S5
    ihave S6 := (of_eq (slotAny_eq (F := F) c 0 6 192 (by decide)).symm) $$ S6
    ihave HX := (x_split c X 0).1 $$ HX
    icases HX with ⟨⟨X0, X1, X2, X3, X4, X5⟩, HX⟩
    ihave HO := (of_eq ((o_columns c V).trans (by rw [← outAt_zero X V]))) $$ HO
    icases HO with ⟨C0, C1, C2, C3, C4, C5⟩
    iapply (in_copy 𝒱 bd c X 0 (by decide) 0 hs (oA hc) oX) $$ [X0 S0 I0]
    · isplitl [X0]; · iexact X0
      isplitl [S0]; · iexact S0
      iexact I0
    iintro HC
    iapply Hk
    unfold Begun Wait Pend
    simp only [if_true]
    unfold Free Idle
    isplitl [HC]; · iexact HC
    isplitl [I1 I2 I3 I4 I5 X1 X2 X3 X4 X5]
    · isplitl [I1 X1]; · isplitl [I1] <;> iassumption
      isplitl [I2 X2]; · isplitl [I2] <;> iassumption
      isplitl [I3 X3]; · isplitl [I3] <;> iassumption
      isplitl [I4 X4]; · isplitl [I4] <;> iassumption
      isplitl [I5] <;> iassumption
    isplitl [S1 O0 T0 C0 S2 O1 T1 C1 S3 O2 T2 C2 S4 O3 T3 C3 S5 O4 T4 C4]
    · isplitl [S1 O0 T0 C0]
      · isplitl [S1]; · iexact S1
        isplitl [O0]; · iexact O0
        isplitl [T0] <;> iassumption
      isplitl [S2 O1 T1 C1]
      · isplitl [S2]; · iexact S2
        isplitl [O1]; · iexact O1
        isplitl [T1] <;> iassumption
      isplitl [S3 O2 T2 C2]
      · isplitl [S3]; · iexact S3
        isplitl [O2]; · iexact O2
        isplitl [T2] <;> iassumption
      isplitl [S4 O3 T3 C3]
      · isplitl [S4]; · iexact S4
        isplitl [O3]; · iexact O3
        isplitl [T3] <;> iassumption
      isplitl [S5]; · iexact S5
      isplitl [O4]; · iexact O4
      isplitl [T4] <;> iassumption
    isplitl [S6 O5 T5 C5]
    · isplitl [S6]; · iexact S6
      isplitl [O5]; · iexact O5
      isplitl [T5] <;> iassumption
    isplitl [HR]; · iexact HR
    isplitl [HZ]; · iexact HZ
    isplitl [Hz]; · iexact Hz
    iexact HX
  · rw [dif_neg hc]
    have h0 : b ≠ 0 := fun e => hc (hC.mpr e)
    unfold Top
    rw [if_neg h0, if_neg (by omega)]
    iintro H Hk
    iapply Hk; iexact H

end Cert.Kernel.Hand
-- ==== Proof.Hand.Ends.lean ====
/-
  The two ends of an image: its first windows asked for, and its planes sent — the next image begun, or everything waited for.
-/
module

public import proofs.«01_k».proof.Proof.Hand.Split

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-- The first part: the first image begun, two windows asked for. -/
theorem part2_run (c : Dev nD) (X V : XT F) (i : grid0.Coords) (b : ℕ) (hi : (i 0).val = b) {a1 a2 a3 a4 a5 a6} {Q : _ → sProp 𝕄} :
    iprop(Top c X V b ∗ Owes (F := F) c)
      ⊢ iprop((iprop(Coming c X b 0 ∗ Coming c X b 1 ∗ Coming c X b 2 ∗ (Wait c X b 3 ∗ Wait c X b 4 ∗ Wait c X b 5)
            ∗ (Idle c X V b 0 ∗ Idle c X V b 1 ∗ Pend c X V b 2 ∗ Pend c X V b 3 ∗ Pend c X V b 4) ∗ Free c X V b 5
            ∗ Rows (F := F) c ∗ zeroAt c semS ∗ Zrest (F := F) c ∗ XRest c X b ∗ Owes (F := F) c) -∗ Q ⟨BitVec.ofNat 32 b, 0#32⟩)
        -∗ wp frame (wpE defs₀ 𝒱 (c : Thread nD τ) bd) Set.univ (k0_part2 (F := F) i mX a1 mO a2 mA a3 mM a4 mS a5 mR a6 cc0_scratch4 cc0_scratch5 cc0_scratch6) Q) := by
  subst hi
  have hb : (i 0).val < 8 := (i 0).isLt
  rw [k0_part2_eq_skeleton]
  unfold k0_part2_skel
  iintro ⟨HT, HO⟩ Hk
  iapply (begin_run 𝒱 bd c X V _ hb (cond1_iff i) (sem_in 0 _ rfl _) rfl (fun _ => off1_eq) rfl) $$ HT
  unfold Begun
  iintro ⟨HC, ⟨W1, W2, W3, W4, W5⟩, ⟨P0, P1, P2, P3, P4⟩, HF, HR, HZ, Hz, HX⟩
  unfold Wait
  icases W1 with ⟨V1, X1⟩
  icases W2 with ⟨V2, X2⟩
  iapply (pend_wait 𝒱 bd c X V _ 0 (sem_out 0 _ rfl _) (cond2_iff i)) $$ [P0 HO]
  · isplitl [P0] <;> iassumption
  iintro ⟨P0, HO⟩
  ihave P0 := (free_out c X V _ _) $$ P0
  icases P0 with ⟨S1, P0⟩
  iapply (in_copy 𝒱 bd c X _ hb 1 (sem_in 1 _ rfl _) (off3_eq i 1) (off4_eq i)) $$ [V1 X1 S1]
  · isplitl [X1]; · iexact X1
    isplitl [S1]; · iexact S1
    iexact V1
  iintro HC1
  simp only [ret_bind']
  iapply (pend_wait 𝒱 bd c X V _ 1 (sem_out 1 _ rfl _) (cond3_iff i)) $$ [P1 HO]
  · isplitl [P1] <;> iassumption
  iintro ⟨P1, HO⟩
  ihave P1 := (free_out c X V _ _) $$ P1
  icases P1 with ⟨S2, P1⟩
  iapply (in_copy 𝒱 bd c X _ hb 2 (sem_in 2 _ rfl _) (off3_eq i 2) (off6_eq i)) $$ [V2 X2 S2]
  · isplitl [X2]; · iexact X2
    isplitl [S2]; · iexact S2
    iexact V2
  iintro HC2
  simp only [ret_bind']
  sl_step
  iapply Hk
  isplitl [HC]; · iexact HC
  isplitl [HC1]; · iexact HC1
  isplitl [HC2]; · iexact HC2
  isplitl [W3 W4 W5]
  · isplitl [W3]; · iexact W3
    isplitl [W4] <;> iassumption
  isplitl [P0 P1 P2 P3 P4]
  · isplitl [P0]; · iexact P0
    isplitl [P1]; · iexact P1
    isplitl [P2]; · iexact P2
    isplitl [P3] <;> iassumption
  isplitl [HF]; · iexact HF
  isplitl [HR]; · iexact HR
  isplitl [HZ]; · iexact HZ
  isplitl [Hz]; · iexact Hz
  isplitl [HX] <;> iassumption

/-! ## The end of an image -/

/-- All planes of image `b` on their way, the slot of the next image's first window free. -/
def Over (c : Dev nD) (X V : XT F) (b : ℕ) : sProp 𝕄 :=
  iprop((six fun i => Sent c X V b i) ∗ (six fun i => zeroAt (F := F) c (semI i)) ∗ (six fun i => ptX c (sX b (32 * i.val) 32) X) ∗ SlotAny (F := F) c b 6
    ∗ Rows (F := F) c ∗ zeroAt c semS ∗ Zrest (F := F) c ∗ XRest c X b)

/-- Then the next image is begun, unless this was the last. -/
def Next (c : Dev nD) (X V : XT F) (b : ℕ) : sProp 𝕄 := if b = 7 then Over c X V b else Begun c X V (b + 1)

/-- The next image's first slot is the one that this image leaves free. -/
theorem slot_six (b : ℕ) : slot (b + 1) 0 = slot b 6 := by unfold slot; omega

/-- The end of an image: unless it is the last, its last window is waited for and the next image's first is asked for. -/
theorem next_run (c : Dev nD) (X V : XT F) (b : ℕ) (hb : b < 8) {C : Prop} [Decidable C] (hC : C ↔ b ≠ 7)
    {s s' : DmaSem sig} (hs : s = semO 5) (hs' : s' = semI 0) {srcw : Memref sig .tc .vmem S32x224x224 .f32}
    {offO : C → Fin 4 → ℕ} {hO : ∀ h a, offO h a + S1x32x224x224.size a ≤ S8x192x224x224.size a}
    {offA : C → Fin 3 → ℕ} (oA : ∀ h, offA h = ![32 * slot (b + 1) 0, 0, 0]) {hA : ∀ h a, offA h a + S32x224x224.size a ≤ S225x224x224.size a}
    {offX : C → Fin 4 → ℕ} (oX : ∀ h, offX h = ![b + 1, 32 * 0, 0, 0]) {hX : ∀ h a, offX h a + S1x32x224x224.size a ≤ S8x192x224x224.size a}
    {h1 : srcw.view.WordExact} {h2 : ∀ h, (winX mO (offO h) (hO h)).view.WordExact}
    {h3 : ∀ h, (winX mX (offX h) (hX h)).view.WordExact} {h4 : ∀ h, (winA (offA h) (hA h)).view.WordExact}
    {α : Type} {p : Prog (TpuEff nD τ sig (Elt F) Λ₀ .tc) α} {Q : α → sProp 𝕄} :
    iprop(Over c X V b ∗ Owes (F := F) c)
      ⊢ iprop((iprop(Next c X V b ∗ Owes (F := F) c) -∗ wp frame (wpE defs₀ 𝒱 (c : Thread nD τ) bd) Set.univ p Q)
        -∗ wp frame (wpE defs₀ 𝒱 (c : Thread nD τ) bd) Set.univ
          (if h' : C then (.op (.waitDma2 s srcw (winX mO (offO h') (hO h')) h1 (h2 h')) fun _ =>
              .op (.enqueueDma (winX mX (offX h') (hX h')) (.here (winA (offA h') (hA h'))) (.dma s') (h3 h') (h4 h') ⟨Or.inl rfl, trivial⟩) fun _ => p) else p) Q) := by
  by_cases hc : C
  · rw [dif_pos hc]
    have h7 := hC.mp hc
    have esl : SlotAny (F := F) c b 6 = SlotAny c (b + 1) 0 := by unfold SlotAny; rw [slot_six]
    unfold Next
    rw [if_neg h7]
    unfold Over
    rw [esl]
    iintro ⟨⟨⟨N0, N1, N2, N3, N4, N5⟩, ⟨I0, I1, I2, I3, I4, I5⟩, HXs, HS, HR, HZ, Hz, HX⟩, HO⟩ Hk
    ihave HX := (x_split c X b).2 $$ [HXs HX]
    · isplitl [HXs]
      · iexact HXs
      · iexact HX
    ihave HX := (x_split c X (b + 1)).1 $$ HX
    icases HX with ⟨⟨X0, X1, X2, X3, X4, X5⟩, HX⟩
    iapply (out_wait 𝒱 bd c X V b 5 hs) $$ [N5 HO]
    · isplitl [N5] <;> iassumption
    iintro ⟨N5, HO⟩
    iapply (in_copy 𝒱 bd c X (b + 1) (by omega) 0 hs' (oA hc) (oX hc)) $$ [X0 HS I0]
    · isplitl [X0]; · iexact X0
      isplitl [HS]; · iexact HS
      iexact I0
    iintro HC
    iapply Hk
    isplitr [HO]
    · unfold Begun Wait Pend
      simp only [Nat.add_one_ne_zero, if_false, Nat.add_sub_cancel]
      isplitl [HC]; · iexact HC
      isplitl [I1 I2 I3 I4 I5 X1 X2 X3 X4 X5]
      · isplitl [I1 X1]; · isplitl [I1] <;> iassumption
        isplitl [I2 X2]; · isplitl [I2] <;> iassumption
        isplitl [I3 X3]; · isplitl [I3] <;> iassumption
        isplitl [I4 X4]; · isplitl [I4] <;> iassumption
        isplitl [I5] <;> iassumption
      isplitl [N0 N1 N2 N3 N4]
      · isplitl [N0]; · iexact N0
        isplitl [N1]; · iexact N1
        isplitl [N2]; · iexact N2
        isplitl [N3] <;> iassumption
      isplitl [N5]; · iexact N5
      isplitl [HR]; · iexact HR
      isplitl [HZ]; · iexact HZ
      isplitl [Hz]; · iexact Hz
      iexact HX
    · iexact HO
  · rw [dif_neg hc]
    have h7 : b = 7 := by by_contra e; exact hc (hC.mpr e)
    unfold Next
    rw [if_pos h7]
    iintro H Hk
    iapply Hk; iexact H

/-- After the last image everything is back, the result written. -/
theorem all_back (c : Dev nD) (X V : XT F) :
    iprop((six fun i => Free c X V 8 i) ∗ (six fun i => zeroAt (F := F) c (semI i)) ∗ (six fun i => ptX c (sX 7 (32 * i.val) 32) X) ∗ SlotAny (F := F) c 7 6
      ∗ Rows (F := F) c ∗ zeroAt c semS ∗ Zrest (F := F) c ∗ XRest c X 7) ⊢ Raw c X (resV X) := by
  have ez : ptA (F := F) c (sA 224 1) fullShare zA ⊢ anyA c (0 + 224) 1 := by unfold anyA; iintro H; iexists _; iexact H
  have eu : anyA (F := F) c 0 225 ⊢ iprop(∃ f, ptA (F := F) c Finset.univ fullShare f) := by unfold anyA; rw [sA_univ]
  unfold Raw Zeros Free Idle
  rw [outAt_all]
  iintro ⟨⟨⟨S1, O0, T0, C0⟩, ⟨S2, O1, T1, C1⟩, ⟨S3, O2, T2, C2⟩, ⟨S4, O3, T3, C3⟩, ⟨S5, O4, T4, C4⟩, ⟨S6, O5, T5, C5⟩⟩, HI, HXs, S0, HR, HZ, Hz, HX⟩
  ihave S0 := (of_eq (slotAny_eq (F := F) c 7 6 192 (by decide))) $$ S0
  ihave S1 := (of_eq (slotAny_eq (F := F) c 8 ((0 : Fin 6).val + 1) 0 (by decide))) $$ S1
  ihave S2 := (of_eq (slotAny_eq (F := F) c 8 ((1 : Fin 6).val + 1) 32 (by decide))) $$ S2
  ihave S3 := (of_eq (slotAny_eq (F := F) c 8 ((2 : Fin 6).val + 1) 64 (by decide))) $$ S3
  ihave S4 := (of_eq (slotAny_eq (F := F) c 8 ((3 : Fin 6).val + 1) 96 (by decide))) $$ S4
  ihave S5 := (of_eq (slotAny_eq (F := F) c 8 ((4 : Fin 6).val + 1) 128 (by decide))) $$ S5
  ihave S6 := (of_eq (slotAny_eq (F := F) c 8 ((5 : Fin 6).val + 1) 160 (by decide))) $$ S6
  ihave HA := (slots_join c) $$ [S0 S1 S2 S3 S4 S5 S6]
  · isplitl [S1]; · iexact S1
    isplitl [S2]; · iexact S2
    isplitl [S3]; · iexact S3
    isplitl [S4]; · iexact S4
    isplitl [S5]; · iexact S5
    isplitl [S6]; · iexact S6
    iexact S0
  ihave Hz := (zero_join c) $$ [Hz T0 T1 T2 T3 T4 T5]
  · isplitl [Hz]; · iexact Hz
    isplitl [T0]; · iexact T0
    isplitl [T1]; · iexact T1
    isplitl [T2]; · iexact T2
    isplitl [T3]; · iexact T3
    isplitl [T4]; · iexact T4
    iexact T5
  ihave Hz := ez $$ Hz
  ihave HA := (any_join c 0 224 1) $$ [HA Hz]
  · isplitl [HA] <;> iassumption
  ihave HA := eu $$ HA
  isplitl [HA]; · iexact HA
  isplitl [HR]; · iexact HR
  isplitl [HI O0 O1 O2 O3 O4 O5 HZ]
  · isplitl [HI]; · iexact HI
    isplitr [HZ]
    · isplitl [O0]; · iexact O0
      isplitl [O1]; · iexact O1
      isplitl [O2]; · iexact O2
      isplitl [O3]; · iexact O3
      isplitl [O4] <;> iassumption
    · iexact HZ
  isplitl [HXs HX]
  · iapply (x_split c X 7).2
    isplitl [HXs]; · iexact HXs
    iexact HX
  rw [o_columns]
  isplitl [C0]; · iexact C0
  isplitl [C1]; · iexact C1
  isplitl [C2]; · iexact C2
  isplitl [C3]; · iexact C3
  isplitl [C4] <;> iassumption

/-- The last image waits for all its planes. -/
theorem last_run (c : Dev nD) (X V : XT F) (i : grid0.Coords) (b : ℕ) (hi : (i 0).val = b)
    {a1 a2 a3 a4 a5 a6} {s s' : DmaSem sig} (hs : s = semO 4) (hs' : s' = semO 5) {w w' : Memref sig .tc .vmem S32x224x224 .f32}
    {offO offO' : k0_cond8 i = 1#1 → Fin 4 → ℕ} {hO : ∀ h a, offO h a + S1x32x224x224.size a ≤ S8x192x224x224.size a} {hO' : ∀ h a, offO' h a + S1x32x224x224.size a ≤ S8x192x224x224.size a}
    {h1 : w.view.WordExact} {h2 : ∀ h, (winX mO (offO h) (hO h)).view.WordExact}
    {h1' : w'.view.WordExact} {h2' : ∀ h, (winX mO (offO' h) (hO' h)).view.WordExact}
    {α : Type} {p : Prog (TpuEff nD τ sig (Elt F) Λ₀ .tc) α} {Q : α → sProp 𝕄} :
    iprop(Next c X V b ∗ Owes (F := F) c)
      ⊢ iprop((iprop(Top c X V (b + 1) ∗ Owes (F := F) c) -∗ wp frame (wpE defs₀ 𝒱 (c : Thread nD τ) bd) Set.univ p Q)
        -∗ wp frame (wpE defs₀ 𝒱 (c : Thread nD τ) bd) Set.univ
          (if h' : k0_cond8 i = 1#1 then (k0_part1 (F := F) i mX a1 mO a2 mA a3 mM a4 mS a5 mR a6 cc0_scratch4 cc0_scratch5 cc0_scratch6 h' >>= fun _ =>
              .op (.waitDma2 s w (winX mO (offO h') (hO h')) h1 (h2 h')) fun _ => .op (.waitDma2 s' w' (winX mO (offO' h') (hO' h')) h1' (h2' h')) fun _ => p) else p) Q) := by
  subst hi
  by_cases hc : k0_cond8 i = 1#1
  · rw [dif_pos hc, wp_bind, k0_part1_eq_skeleton]
    have h7 := (cond8_iff i).mp hc
    rw [h7]
    unfold Next Top Over k0_part1_skel
    rw [if_pos rfl, if_neg (by decide), if_pos (by decide)]
    iintro ⟨⟨⟨N0, N1, N2, N3, N4, N5⟩, HI, HXs, HS, HR, HZ, Hz, HX⟩, HO⟩ Hk
    iapply (out_wait 𝒱 bd c X V 7 0 (sem_out 0 _ rfl _)) $$ [N0 HO]
    · isplitl [N0] <;> iassumption
    iintro ⟨N0, HO⟩
    simp only [ret_bind']
    iapply (out_wait 𝒱 bd c X V 7 1 (sem_out 1 _ rfl _)) $$ [N1 HO]
    · isplitl [N1] <;> iassumption
    iintro ⟨N1, HO⟩
    simp only [ret_bind']
    iapply (out_wait 𝒱 bd c X V 7 2 (sem_out 2 _ rfl _)) $$ [N2 HO]
    · isplitl [N2] <;> iassumption
    iintro ⟨N2, HO⟩
    simp only [ret_bind']
    iapply (out_wait 𝒱 bd c X V 7 3 (sem_out 3 _ rfl _)) $$ [N3 HO]
    · isplitl [N3] <;> iassumption
    iintro ⟨N3, HO⟩
    simp only [ret_bind']
    sl_step
    iapply (out_wait 𝒱 bd c X V 7 4 hs) $$ [N4 HO]
    · isplitl [N4] <;> iassumption
    iintro ⟨N4, HO⟩
    iapply (out_wait 𝒱 bd c X V 7 5 hs') $$ [N5 HO]
    · isplitl [N5] <;> iassumption
    iintro ⟨N5, HO⟩
    iapply Hk
    isplitr [HO]
    · iapply (all_back c X V)
      isplitl [N0 N1 N2 N3 N4 N5]
      · isplitl [N0]; · iexact N0
        isplitl [N1]; · iexact N1
        isplitl [N2]; · iexact N2
        isplitl [N3]; · iexact N3
        isplitl [N4] <;> iassumption
      isplitl [HI]; · iexact HI
      isplitl [HXs]; · iexact HXs
      isplitl [HS]; · iexact HS
      isplitl [HR]; · iexact HR
      isplitl [HZ]; · iexact HZ
      isplitl [Hz] <;> iassumption
    · iexact HO
  · rw [dif_neg hc]
    have hb : (i 0).val < 8 := (i 0).isLt
    have h7 : (i 0).val ≠ 7 := fun e => hc ((cond8_iff i).mpr e)
    unfold Next Top
    rw [if_neg h7, if_neg (by omega), if_neg (by omega)]
    iintro H Hk
    iapply Hk; iexact H

end Cert.Kernel.Hand
-- ==== Proof.Hand.Body.lean ====
/-
  One image, whole: the parts in order, the loop, and the end.
-/
module

public import proofs.«01_k».proof.Proof.Hand.Ends

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (𝒱 : Variants) (bd : Option 𝒱.V)

/-- One image: from its top to the next one's. -/
theorem body_run (c : Dev nD) (X V : XT F) (i : grid0.Coords) (b : ℕ) (hi : (i 0).val = b) {a1 a2 a3 a4 a5 a6} {Q : PUnit → sProp 𝕄} :
    iprop(Top c X V b ∗ Owes (F := F) c)
      ⊢ iprop((iprop(Top c X V (b + 1) ∗ Owes (F := F) c) -∗ Q ⟨⟩)
        -∗ wp frame (wpE defs₀ 𝒱 (c : Thread nD τ) bd) Set.univ (cc0__fused (F := F) i mX a1 mO a2 mA a3 mM a4 mS a5 mR a6 cc0_scratch4 cc0_scratch5 cc0_scratch6) Q) := by
  have hb : b < 8 := hi ▸ (i 0).isLt
  rw [cc0__fused_eq_skeleton]
  unfold cc0__fused_skel
  rw [wp_bind]
  iintro HT Hk
  iapply (part2_run 𝒱 bd c X V i b hi) $$ HT
  iintro ⟨C0, C1, C2, ⟨W3, W4, W5⟩, ⟨J0, J1, P2, P3, P4⟩, F5, HRows, HZ, Hz, HX, HO⟩
  unfold Rows
  icases HRows with ⟨HM, HN, HR⟩
  rw [wp_bind]
  iapply (part3_run 𝒱 bd c X V i b hi) $$ [P2 P3 P4 W3 W4 HO]
  · isplitl [P2]; · iexact P2
    isplitl [P3]; · iexact P3
    isplitl [P4]; · iexact P4
    isplitl [W3]; · iexact W3
    isplitl [W4] <;> iassumption
  iintro %r ⟨J2, J3, F4, C3, C4, HO⟩
  ihave F4 := (free_out c X V _ _) $$ F4
  icases F4 with ⟨S5, J4⟩
  ihave HM := (show iprop(∃ f, ptM (F := F) c f) ⊢ MaxTo c X b (32 * 0) by
    unfold MaxTo; iintro ⟨%f, H⟩; iexists f; isplitr
    · ipureintro; exact fun ch h => absurd h (Nat.not_lt_zero _)
    · iexact H) $$ HM
  ihave HN := (show iprop(∃ f, ptS (F := F) c f) ⊢ SrcTo c X b (32 * 0) by
    unfold SrcTo; iintro ⟨%f, H⟩; iexists f; isplitr
    · ipureintro; exact fun ch h => absurd h (Nat.not_lt_zero _)
    · iexact H) $$ HN
  rw [wp_bind]
  iapply (part4_run 𝒱 bd c X V i b hi) $$ [S5 W5 C0 HM HO]
  · isplitl [S5]; · iexact S5
    isplitl [W5]; · iexact W5
    isplitl [C0]; · iexact C0
    isplitl [HM] <;> iassumption
  iintro %r4 ⟨C5, G0, HM, HO⟩
  rw [wp_bind]
  iapply (part5_run 𝒱 bd c X V i b hi) $$ [C1 C2 HM HO]
  · isplitl [C1]; · iexact C1
    isplitl [C2]; · iexact C2
    isplitl [HM] <;> iassumption
  iintro %r5 ⟨G1, G2, HM, HO⟩
  rw [wp_bind]
  iapply (part6_run 𝒱 bd c X V i b hi) $$ [G2 C3 HM HO]
  · isplitl [G2]; · iexact G2
    isplitl [C3]; · iexact C3
    isplitl [HM] <;> iassumption
  iintro %r6 ⟨G2, G3, HM, HO⟩
  rw [wp_bind]
  iapply (part7_run 𝒱 bd c X V i b hi) $$ [C4 C5 HM HO]
  · isplitl [C4]; · iexact C4
    isplitl [C5]; · iexact C5
    isplitl [HM] <;> iassumption
  iintro %r7 ⟨G4, G5, HM, HO⟩
  rw [wp_bind]
  iapply (part8_run 𝒱 bd c X V i b hi) $$ [G5 HM HN]
  · isplitl [G5]; · iexact G5
    isplitl [HM] <;> iassumption
  iintro ⟨G5, HM, HN⟩
  rw [wp_bind]
  iapply (part9_run 𝒱 bd c X V i b hi) $$ HN
  iintro HN
  rw [wp_bind]
  iapply (part10_run 𝒱 bd c X V i b hi) $$ HN
  iintro HN
  iapply (put_S 𝒱 bd c X b 5 (by decide) rfl (fun t ht => (word15 (BitVec.ofNat 32 b) (rankV X b) (ixT t)).trans (src_word X b hb 5 t ht))) $$ HN
  iintro HN
  simp only [ret_bind']
  iapply (table_copy 𝒱 bd c X b sem_src) $$ [HN HR HZ HO]
  · isplitl [HN]; · iexact HN
    isplitl [HR]; · iexact HR
    isplitl [HZ] <;> iassumption
  iintro ⟨HN, ⟨%f, %hf, HR⟩, HZ, HO⟩
  simp only [ret_bind']
  unfold Got
  icases G0 with ⟨S0, X0, V0⟩
  icases G1 with ⟨S1, X1, V1⟩
  icases G2 with ⟨S2, X2, V2⟩
  icases G3 with ⟨S3, X3, V3⟩
  icases G4 with ⟨S4, X4, V4⟩
  icases G5 with ⟨S5, X5, V5⟩
  ihave F5 := (free_out c X V _ _) $$ F5
  icases F5 with ⟨HS, J5⟩
  iapply (loop_run 𝒱 bd c X V i b hi f hf) $$ [HR S0 S1 S2 S3 S4 S5 J0 J1 J2 J3 J4 J5]
  · isplitl [HR]; · iexact HR
    isplitl [S0 J0]; · isplitl [S0] <;> iassumption
    isplitl [S1 J1]; · isplitl [S1] <;> iassumption
    isplitl [S2 J2]; · isplitl [S2] <;> iassumption
    isplitl [S3 J3]; · isplitl [S3] <;> iassumption
    isplitl [S4 J4]; · isplitl [S4] <;> iassumption
    isplitl [S5] <;> iassumption
  iintro ⟨HR, HD⟩
  iapply (next_run 𝒱 bd c X V b hb (hi ▸ cond7_iff i) (sem_out 5 _ rfl _) (sem_in 0 _ rfl _) (fun _ => hi ▸ off20_eq i) (fun h => hi ▸ off21_eq i h))
    $$ [HD V0 V1 V2 V3 V4 V5 X0 X1 X2 X3 X4 X5 HS HM HN HR HZ Hz HX HO]
  · isplitr [HO]
    · unfold Over Rows
      isplitl [HD]; · iexact HD
      isplitl [V0 V1 V2 V3 V4 V5]
      · isplitl [V0]; · iexact V0
        isplitl [V1]; · iexact V1
        isplitl [V2]; · iexact V2
        isplitl [V3]; · iexact V3
        isplitl [V4] <;> iassumption
      isplitl [X0 X1 X2 X3 X4 X5]
      · isplitl [X0]; · iexact X0
        isplitl [X1]; · iexact X1
        isplitl [X2]; · iexact X2
        isplitl [X3]; · iexact X3
        isplitl [X4] <;> iassumption
      isplitl [HS]; · iexact HS
      isplitl [HM HN HR]
      · isplitl [HM]
        · unfold MaxTo; icases HM with ⟨%g, -, HM⟩; iexists g; iexact HM
        isplitl [HN]
        · unfold SrcTo; icases HN with ⟨%g, -, HN⟩; iexists g; iexact HN
        iexists f; iexact HR
      isplitl [HZ]; · iexact HZ
      isplitl [Hz] <;> iassumption
    · iexact HO
  iintro HT
  iapply (last_run 𝒱 bd c X V i b hi (sem_out 4 _ rfl _) (sem_out 5 _ rfl _)) $$ HT
  iintro HT
  sl_step
  iapply Hk; iexact HT

end Cert.Kernel.Hand
-- ==== Proof.Hand.Run.lean ====
/-
  The whole kernel: its images in order, and what it leaves behind.
-/
module

public import proofs.«01_k».proof.Proof.Hand.Body

public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The buffer the body writes itself: the result. -/
def R0 : Finset (Ref sig .tc) := {main_v0}
/-- The buffer it reads itself: the argument. -/
def H0 : Finset (Ref sig .tc) := {main_arg0}
/-- The argument is a buffer that no window holds. -/
theorem H0_sub : H0 ⊆ Pipeline.restRefs sig (cfg0.spec) := by decide
/-- So is the result. -/
theorem R0_sub : R0 ⊆ Pipeline.restRefs sig (cfg0.spec) \ H0 := by decide

/-- The body's own semaphores. -/
abbrev osem0 : Fin 13 → SemLoc sig := fun j => SemLoc.dma j
/-- The kernel's own semaphores are well placed. -/
theorem ownSemFacts0 : Pipeline.OwnSemFacts (cfg0.spec) osem0 := by decide

/-- What each buffer holds at launch, and at the end. -/
abbrev V0 (c : Dev nD) (b : Ref sig .tc) : Buf (Elt F) ((c : Thread nD τ).loc b) := m ((c : Thread nD τ).loc b)
abbrev argX (c : Dev nD) : XT F := m ((c : Thread nD τ).loc main_arg0)
abbrev argV (c : Dev nD) : XT F := m ((c : Thread nD τ).loc main_v0)
def G0 (c : Dev nD) (b : Ref sig .tc) : Buf (Elt F) ((c : Thread nD τ).loc b) :=
  if h : b = main_v0 then h ▸ (resV (argX m c) : XT F) else V0 m c b
/-- The result buffer ends at the value claimed. -/
theorem G0_v0 (c : Dev nD) : G0 m c main_v0 = (resV (argX m c) : XT F) := by unfold G0; rw [dif_pos rfl]

/-- The program is the one launch. -/
theorem hmain0 (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- The kernel's semaphores, at zero, window by window. -/
theorem ownSems0_six (c : Dev nD) :
    (Pipeline.ownSems0 (Ix := Unit) (Name := ℕ) (U := Pipeline.UD sig nD τ) (Lvl := ℕ) (Val := Elt F) (τ := τ) osem0 c : sProp 𝕄)
      = iprop(zeroAt c (semI 0) ∗ zeroAt c (semI 1) ∗ zeroAt c (semI 2) ∗ zeroAt c (semI 3) ∗ zeroAt c (semI 4) ∗ zeroAt c (semI 5)
        ∗ zeroAt c (semO 0) ∗ zeroAt c (semO 1) ∗ zeroAt c (semO 2) ∗ zeroAt c (semO 3) ∗ zeroAt c (semO 4) ∗ zeroAt c (semO 5) ∗ zeroAt c semS) := by
  rw [Pipeline.ownSems0_eq_of_list c osem0 [0, 1, 2, 3, 4, 5, 6, 7, 8, 9, 10, 11, 12] (by decide) (by decide)]; rfl

/-- The generator's register, at any state. -/
abbrev Prng (c : Dev nD) : sProp 𝕄 := iprop(∃ r, prngReg c r)

/-- What the pipeline's buffers amount to, whatever the result holds. -/
def Ends (c : Dev nD) (o : XT F) : sProp 𝕄 :=
  iprop(((∃ f : AT F, ptA (F := F) c Finset.univ fullShare f) ∗ (∃ f, ptM (F := F) c f) ∗ (∃ f, ptS (F := F) c f) ∗ (∃ f, ptR (F := F) c f))
    ∗ Prng (F := F) c
    ∗ (zeroAt c (semI 0) ∗ zeroAt c (semI 1) ∗ zeroAt c (semI 2) ∗ zeroAt c (semI 3) ∗ zeroAt c (semI 4) ∗ zeroAt c (semI 5)
        ∗ zeroAt c (semO 0) ∗ zeroAt c (semO 1) ∗ zeroAt c (semO 2) ∗ zeroAt c (semO 3) ∗ zeroAt c (semO 4) ∗ zeroAt c (semO 5) ∗ zeroAt c semS)
    ∗ ptX c Finset.univ (argX m c) ∗ ptO c Finset.univ o)

/-- What the launch hands over and takes back, as the buffers and semaphores of the kernel. -/
theorem phi_ends (c : Dev nD) (G : (c : Dev nD) → (b : Ref sig .tc) → Buf (Elt F) ((c : Thread nD τ).loc b)) :
    (Pipeline.ΦDRG osem0 (cfg0.spec) H0 R0 (V0 m) G c : sProp 𝕄) = Ends m c (G c main_v0) := by
  rw [Pipeline.ΦDRG_eq, scopedRest0_eq, ownSems0_six]
  unfold H0 R0
  rw [BI.bigSep_singleton, Pipeline.routed_singleton]
  rfl

/-- At the start and at the end the buffers are as the images' loop states them. -/
theorem ends_raw (c : Dev nD) (o : XT F) : Ends m c o ⊢ iprop(Raw c (argX m c) o ∗ Prng (F := F) c) := by
  unfold Ends Raw Rows Zeros
  iintro ⟨⟨HA, HM, HN, HR⟩, Hg, ⟨I0, I1, I2, I3, I4, I5, O0, O1, O2, O3, O4, O5, HS⟩, HX, HV⟩
  isplitr [Hg]
  · isplitl [HA]; · iexact HA
    isplitl [HM HN HR]
    · isplitl [HM]; · iexact HM
      isplitl [HN] <;> iassumption
    isplitl [I0 I1 I2 I3 I4 I5 O0 O1 O2 O3 O4 O5 HS]
    · isplitl [I0 I1 I2 I3 I4 I5]
      · isplitl [I0]; · iexact I0
        isplitl [I1]; · iexact I1
        isplitl [I2]; · iexact I2
        isplitl [I3]; · iexact I3
        isplitl [I4] <;> iassumption
      isplitl [O0 O1 O2 O3 O4 O5]
      · isplitl [O0]; · iexact O0
        isplitl [O1]; · iexact O1
        isplitl [O2]; · iexact O2
        isplitl [O3]; · iexact O3
        isplitl [O4] <;> iassumption
      iexact HS
    isplitl [HX] <;> iassumption
  · iexact Hg

/-- The buffers as the run leaves them, put together. -/
theorem raw_ends (c : Dev nD) (o : XT F) : iprop(Raw c (argX m c) o ∗ Prng (F := F) c) ⊢ Ends m c o := by
  unfold Ends Raw Rows Zeros
  iintro ⟨⟨HA, ⟨HM, HN, HR⟩, ⟨⟨I0, I1, I2, I3, I4, I5⟩, ⟨O0, O1, O2, O3, O4, O5⟩, HS⟩, HX, HV⟩, Hg⟩
  isplitl [HA HM HN HR]
  · isplitl [HA]; · iexact HA
    isplitl [HM]; · iexact HM
    isplitl [HN] <;> iassumption
  isplitl [Hg]; · iexact Hg
  isplitr [HX HV]
  · isplitl [I0]; · iexact I0
    isplitl [I1]; · iexact I1
    isplitl [I2]; · iexact I2
    isplitl [I3]; · iexact I3
    isplitl [I4]; · iexact I4
    isplitl [I5]; · iexact I5
    isplitl [O0]; · iexact O0
    isplitl [O1]; · iexact O1
    isplitl [O2]; · iexact O2
    isplitl [O3]; · iexact O3
    isplitl [O4]; · iexact O4
    isplitl [O5] <;> iassumption
  isplitl [HX] <;> iassumption

/-- The proof data of the one pipeline: before image `t`, what the body finds there. -/
def dats (_ : Fin 1) (c : Dev nD) : Dat τ (Elt F) Unit ℕ (Pipeline.UD sig nD τ) ℕ cfg0 c where
  A w := w.elim0
  after w _ := w.elim0
  Φ t := iprop(Top c (argX m c) (argV m c) t.val ∗ Prng (F := F) c)
  q _ := fullShare
  owed _ := 0

/-- Step `t` of the grid is image `t`. -/
theorem coords_val (t : Fin cfg0.N) : (grid0.coords t 0).val = t.val := by
  rcases fin_N0 t with rfl | rfl | rfl | rfl | rfl | rfl | rfl | rfl <;> rfl

/-- What the launch runs at each step is the body. -/
theorem defs₀_row (t : Fin cfg0.N) : defs₀ (F := F) .tc cfg0.body (cfg0.bodyArgs t (cfg0.slots t)) = bodyAt0 t := by
  unfold defs₀; rw [Defs.onTc_tc]

/-- The body at image `t`. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  unfold bodyAt0 Dat.owesAt Pipeline.owesWithin
  rw [show (dats m 0 c).owed t.castSucc = 0 from rfl, show (dats m 0 c).owed t.succ = 0 from rfl,
    show (dats m 0 c).Φ t.castSucc = iprop(Top c (argX m c) (argV m c) t.val ∗ Prng (F := F) c) from rfl,
    show (dats m 0 c).Φ t.succ = iprop(Top c (argX m c) (argV m c) (t.val + 1) ∗ Prng (F := F) c) from rfl]
  iintro ⟨⟨HT, Hg⟩, ⟨%W, -, HW⟩⟩
  iapply (body_run Variants.none none c (argX m c) (argV m c) (grid0.coords t) t.val (coords_val t)) $$ [HT HW]
  · isplitl [HT]; · iexact HT
    iexists W; iexact HW
  iintro ⟨HT, ⟨%W', HW'⟩⟩
  isplitl [HT Hg]
  · isplitl [HT] <;> iassumption
  iexists W'; isplitr
  · ipureintro; exact fun _ _ => Or.inl trivial
  iexact HW'

/-- The body, from the state at the top of one image to the state at the top of the next. -/
theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact (show iprop((dats m 0 c).Φ t.castSucc ∗ (dats m 0 c).owesAt () t.castSucc ∗ emp)
      ⊢ iprop((dats m 0 c).Φ t.castSucc ∗ (dats m 0 c).owesAt () t.castSucc) by
      iintro ⟨H1, H2, -⟩; isplitl [H1] <;> iassumption).trans
    ((sound_body m c t).trans (wp_mono (Fr := frame) _ _ fun _ => by
      iintro ⟨H1, H2⟩; isplitl [H1]; · iexact H1
      isplitl [H2]; · iexact H2
      iempintro))

set_option backward.isDefEq.respectTransparency.types false in
/-- The kernel's run: the argument kept, the result at `resV`, every semaphore at zero. -/
theorem run_main : θ_run defs (onTc (τ := τ) (main (F := F))) (s₀ m ρ)
    (fun r => Pipeline.FramePostRG cfgs (dats m) 0 R0 (V0 m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V0 m) (hmain := hmain0 m Variants.none) (hA := fun _ w => w.elim0) (G := G0 m)
    (hin := fun c => (of_eq (phi_ends m c (V0 m))).trans ((ends_raw m c _).trans (by
      show _ ⊢ iprop(Top c (argX m c) (argV m c) 0 ∗ Prng (F := F) c)
      unfold Top; rw [if_pos rfl])))
    (hout := fun c => (show iprop(Top c (argX m c) (argV m c) 8 ∗ Prng (F := F) c) ⊢ _ by
      unfold Top; rw [if_neg (by decide), if_pos rfl]
      exact (raw_ends m c _).trans (of_eq ((congrArg (Ends m c) (G0_v0 m c).symm).trans (phi_ends m c (G0 m)).symm))))

/-- The whole program: it runs to its end without fault, the argument array ends as it was, the result array holds `resV`
    of the argument, and every semaphore is at zero. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = (resV (argX m c) : XT F))
      ∧ r.2.sem = fun _ => 0) :=
  (θ_run defs _ _).mono (fun _ h => ⟨fun c => ⟨(h.1.1 c).2 main_arg0 (Finset.mem_sdiff.mpr ⟨Pipeline.mem_restRefs_of main_arg0 (by decide) (by decide), by decide⟩),
      (h.1.2 c main_v0 (by decide)).trans (G0_v0 m c)⟩, h.2⟩) (run_main m ρ)

/-- The frame alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).1, h.2⟩) (run_value m ρ)

end Cert.Kernel.Hand
-- ==== Proof.Hand.Ideal.lean ====
/-
  The kernel of the idealised program is the kernel's own text under another name: its run is the kernel's.
-/
module

public import proofs.«01_k».proof.Proof.Hand.Run
public import proofs.«01_k».proof.Proof.Gen.KernelIdeal.Frame

@[expose] public section
noncomputable section
namespace Cert.KernelIdeal.Hand
open Cert.KernelIdeal Cert.KernelIdeal.Gen
open Idealize.ShloMosaic Idealize.ShloMosaic.TcCoe
open Idealize.SL Idealize.SL.Sem
variable {F : FTy → Type} [FloatOps F]

/-- The two programs are the same program. -/
theorem main_same (c : Dev nD) : Cert.KernelIdeal.main (F := F) c = Cert.Kernel.main (F := F) c := rfl
/-- The idealised kernel's bodies are the kernel's. -/
theorem defs_same : Cert.KernelIdeal.defs (F := F) = Cert.Kernel.defs (F := F) := rfl

/-- The run of the idealised program, at any arithmetic. -/
theorem run_value (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = (Cert.Kernel.Hand.resV (F := F) (m ((c.tc : Thread nD τ).loc main_arg0)) : Cert.Kernel.Hand.XT F))
      ∧ r.2.sem = fun _ => 0) :=
  Cert.Kernel.Hand.run_value (F := F) m ρ

end Cert.KernelIdeal.Hand
-- ==== Proof.Hand.Order.lean ====
/-
  The first `k` positions of a stable sort, greatest first, are those that fewer than `k` positions come before.
-/
module

public import Idealize.ShloMosaic.Lib.SortFacts
public import Mathlib.Data.EReal.Basic
public import Mathlib.Data.Fintype.BigOperators

@[expose] public section

noncomputable section

namespace Cert.Value

open Idealize.ShloMosaic

variable {n : ℕ} (v : Fin n → EReal)

/-- Position `k` holds more than position `k'`. -/
def more (k k' : Fin n) : Bool := decide (v k' < v k)

/-- Position `k` comes before `k'`: it holds more, or as much and stands first. -/
def ahead (k k' : Fin n) : Prop := v k' < v k ∨ (v k = v k' ∧ k < k')

instance (k k' : Fin n) : Decidable (ahead v k k') := by unfold ahead; infer_instance

/-- Being ahead is transitive. -/
theorem ahead_trans {a b c : Fin n} (h : ahead v a b) (h' : ahead v b c) : ahead v a c := by
  unfold ahead at *
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- No channel is ahead of itself. -/
theorem ahead_irrefl (a : Fin n) : ¬ ahead v a a := by
  unfold ahead; simp

/-- Inserting a position that stands before all of a list keeps the list in order. -/
theorem insert_ahead (a : Fin n) : ∀ L : List (Fin n), L.Pairwise (ahead v) → (∀ b ∈ L, a < b) → (insertBefore (more v) a L).Pairwise (ahead v) := by
  intro L
  induction L with
  | nil => intro _ _; exact List.pairwise_singleton _ _
  | cons b L ih =>
    intro hL ha
    rw [List.pairwise_cons] at hL
    unfold insertBefore
    by_cases hb : more v b a = true
    · rw [if_pos hb, List.pairwise_cons]
      refine ⟨fun x hx => ?_, ih hL.2 fun x hx => ha x (List.mem_cons_of_mem _ hx)⟩
      rcases List.mem_cons.1 ((perm_insertBefore (more v) a L).mem_iff.1 hx) with rfl | hx
      · exact Or.inl (of_decide_eq_true hb)
      · exact hL.1 x hx
    · have hab : ahead v a b := by
        have h1 : ¬ v a < v b := fun h => hb (decide_eq_true h)
        rcases lt_or_eq_of_le (not_lt.1 h1) with h | h
        · exact Or.inl h
        · exact Or.inr ⟨h.symm, ha b List.mem_cons_self⟩
      rw [if_neg hb, List.pairwise_cons]
      refine ⟨fun x hx => ?_, List.pairwise_cons.2 hL⟩
      rcases List.mem_cons.1 hx with rfl | hx
      · exact hab
      · exact ahead_trans v hab (hL.1 x hx)

/-- The stable sort of an increasing list of positions is in order. -/
theorem sort_ahead : ∀ L : List (Fin n), L.Pairwise (· < ·) → (stableSort (more v) L).Pairwise (ahead v) := by
  intro L
  induction L with
  | nil => intro _; exact List.Pairwise.nil
  | cons a L ih =>
    intro hL
    rw [List.pairwise_cons] at hL
    exact insert_ahead v a _ (ih hL.2) fun b hb => hL.1 b ((perm_stableSort (more v) L).mem_iff.1 hb)

/-- Earlier in the sort is ahead. -/
theorem sortedFrom_ahead {i j : Fin n} (h : i < j) : ahead v (sortedFrom (more v) i) (sortedFrom (more v) j) :=
  List.pairwise_iff_get.1 (sort_ahead v (List.finRange n) (List.pairwise_lt_finRange n)) _ _ h

/-- In the sorted order, ahead is earlier. -/
theorem sortedFrom_ahead_iff (i j : Fin n) : ahead v (sortedFrom (more v) i) (sortedFrom (more v) j) ↔ i < j := by
  refine ⟨fun h => ?_, sortedFrom_ahead v⟩
  by_contra hn
  rcases lt_or_eq_of_le (not_lt.1 hn) with h' | rfl
  · exact ahead_irrefl v _ (ahead_trans v h (sortedFrom_ahead v h'))
  · exact ahead_irrefl v _ h

/-- How many positions come before `ch`. -/
def rank (ch : Fin n) : ℕ := (Finset.univ.filter fun j => ahead v j ch).card

/-- At most all channels are ahead. -/
theorem rank_le (ch : Fin n) : rank v ch ≤ n := (Finset.card_le_univ _).trans (by simp)

/-- The position sorted to place `r` has `r` positions before it. -/
theorem rank_sortedFrom (r : Fin n) : rank v (sortedFrom (more v) r) = r.val := by
  have e : (Finset.univ.filter fun j => ahead v j (sortedFrom (more v) r)) = (Finset.univ.filter fun i : Fin n => i < r).image (sortedFrom (more v)) := by
    ext j
    rw [Finset.mem_filter, Finset.mem_image]
    constructor
    · rintro ⟨-, hj⟩
      obtain ⟨i, rfl⟩ := sortedFrom_surjective (more v) j
      exact ⟨i, Finset.mem_filter.2 ⟨Finset.mem_univ _, (sortedFrom_ahead_iff v i r).1 hj⟩, rfl⟩
    · rintro ⟨i, hi, rfl⟩
      exact ⟨Finset.mem_univ _, sortedFrom_ahead v (Finset.mem_filter.1 hi).2⟩
  unfold rank
  rw [e, Finset.card_image_of_injective _ (sortedFrom_injective _)]
  exact (congrArg Finset.card (by ext i; simp)).trans (Fin.card_Iio r)

/-- Position `ch` is among the first `k` of the sort exactly when fewer than `k` positions come before it. -/
theorem first_iff (k : ℕ) (ch : Fin n) : (∃ r : Fin n, r.val < k ∧ sortedFrom (more v) r = ch) ↔ rank v ch < k := by
  constructor
  · rintro ⟨r, hr, rfl⟩; rw [rank_sortedFrom]; exact hr
  · intro h
    obtain ⟨r, rfl⟩ := sortedFrom_surjective (more v) ch
    exact ⟨r, by rw [rank_sortedFrom] at h; exact h, rfl⟩

end Cert.Value

end
-- ==== Proof.Hand.Ranks.lean ====
/-
  On the extended reals: the kernel's maximum of a channel is the greatest of its elements, the rank it counts is the
  number of channels ahead, and a channel is kept exactly when that is below 96.
-/
module

public import proofs.«01_k».proof.Proof.Hand.Spec
public import proofs.«01_k».proof.Proof.Hand.Order
public import Idealize.ShloMosaic.PureOps.Reduce
public import Idealize.ShloMosaic.PureOps.Ideal.Laws
public import Idealize.ShloMosaic.Lib.Pipeline.Value
public import Idealize.ShloMosaic.Lib.IndicatorCount
public import Idealize.ShloMosaic.Lib.WordCmp

@[expose] public section

noncomputable section

namespace Cert.Value

open Cert.Kernel Cert.Kernel.Gen Cert.Kernel.Hand
open Idealize.ShloMosaic Idealize.ShloMosaic.TcCoe
open Idealize.ShloMosaic.ValueIdx

/-- The greatest element of channel `ch` of image `b`. -/
def top (X : XT Ideal) (b : Fin 8) (ch : Fin 192) : EReal := Finset.univ.sup fun p : Fin 224 × Fin 224 => X (ix4 b ch p.1 p.2)

/-- The word of minus infinity. -/
theorem bot_word : (FloatOps.ofBits (F := Ideal) .f32 0xFF800000#32 : EReal) = ⊥ := by
  show Ideal.ofBits .f32 0xFF800000#32 = ⊥
  simp [Ideal.ofBits, Ideal.ieee]

/-- A fold of `maximumf` from minus infinity is the supremum. -/
theorem fold_sup {ι : Type} (S : Finset ι) (x : ι → EReal) :
    S.fold (FloatOps.maximumf (F := Ideal) (φ := .f32)) (FloatOps.ofBits (F := Ideal) .f32 0xFF800000#32) x = S.sup x := by
  rw [bot_word]; rfl

/-- The kernel's maximum of a channel. -/
theorem maxV_eq (X : XT Ideal) (b : Fin 8) (ch : Fin 192) : maxV X b.val (ixC ch.val) = top X b ch := by
  have hm : ch.val % 192 = ch.val := Nat.mod_eq_of_lt ch.isLt
  have hb : b.val % 8 = b.val := Nat.mod_eq_of_lt b.isLt
  have ht : ch.val % 32 < 32 := Nat.mod_lt _ (by norm_num)
  show k0_pay2 (chunkV X b.val ((ch.val % 192) / 32)) (ixT ((ch.val % 192) % 32)) = _
  rw [hm]
  unfold k0_pay2
  dsimp only
  have hs : ∀ y : FVec Ideal S32 .f32, shapeCast S1x32 y shapeCasts_S32_S1x32 (ixT (ch.val % 32)) = y (ix1 (⟨ch.val % 32, ht⟩ : Fin 32)) := fun y =>
    shapeCast_apply _ _ _ _ (by
      rw [Shape.rowMajor_val_one, Shape.rowMajor_val_two]
      show ch.val % 32 = 0 * 32 + ch.val % 32 % 32
      omega)
  refine (hs _).trans (((multiReduction_maximumf_eq_fold _ _ _ _ _ _).trans (fold_sup _ _)).trans ?_)
  have hd : ∀ k : S32x224x224.Idx, (reduces_S32x224x224_S32.drop k = ix1 (⟨ch.val % 32, ht⟩ : Fin 32)) ↔ (k 0).val = ch.val % 32 := fun k => by
    have e := Shape.Reduces.drop_apply_val_of_eq reduces_S32x224x224_S32 k (0 : Fin 1) 0
    constructor
    · intro h; rw [← e, h]
    · intro h; funext a; fin_cases a; exact Fin.ext (e.trans h)
  have hx : ∀ k : S32x224x224.Idx, (k 0).val = ch.val % 32 → chunkV X b.val (ch.val / 32) k = X (ix4 b ch (k 1) (k 2)) := fun k h => by
    unfold chunkV ixX
    refine congrArg X ?_
    have e1 : (⟨b.val % 8, Nat.mod_lt _ (by norm_num)⟩ : Fin 8) = b := Fin.ext hb
    have e2 : (⟨(32 * (ch.val / 32) + (k 0).val) % 192, Nat.mod_lt _ (by norm_num)⟩ : Fin 192) = ch := Fin.ext (by
      show (32 * (ch.val / 32) + (k 0).val) % 192 = ch.val
      rw [h]; omega)
    rw [e1, e2]
  refine le_antisymm (Finset.sup_le fun k hk => ?_) (Finset.sup_le fun p _ => ?_)
  · have hk' := (hd k).1 (Finset.mem_filter.1 hk).2
    rw [hx k hk']
    exact Finset.le_sup (f := fun p : Fin 224 × Fin 224 => X (ix4 b ch p.1 p.2)) (Finset.mem_univ (k 1, k 2))
  · have h0 : ((ix3 (⟨ch.val % 32, ht⟩ : Fin 32) p.1 p.2 : S32x224x224.Idx) 0).val = ch.val % 32 := rfl
    refine le_of_eq_of_le (hx _ h0).symm (Finset.le_sup (Finset.mem_filter.2 ⟨Finset.mem_univ _, (hd _).2 h0⟩))

/-- A sum of indicator words along the last axis counts the positions where the indicator is one. -/
theorem count_eq (src : IVec S1x192x192 1) (hacc : (0#32 : BitVec 32) = IKind.add.neutral) (ch : Fin 192) :
    multiReductionI .add [2] S1x192 (extui 32 src natLt_1_32) 0#32 reduces_S1x192x192_S1x192 hacc (ixC ch.val)
      = BitVec.ofNat 32 (Finset.univ.filter fun j : Fin 192 => src (ix3 (0 : Fin 1) ch j) = 1#1).card := by
  rw [multiReductionI_eq_fold]
  refine (IndicatorCount.fold_addi_setWidth_eq_card src _).trans (congrArg (BitVec.ofNat 32) ?_)
  have hd : ∀ k : S1x192x192.Idx, (reduces_S1x192x192_S1x192.drop k = ixC ch.val) ↔ k = ix3 (0 : Fin 1) ch (k 2) := fun k => by
    have e0 := Shape.Reduces.drop_apply_val_of_eq reduces_S1x192x192_S1x192 k (0 : Fin 2) 0
    have e1 := Shape.Reduces.drop_apply_val_of_eq reduces_S1x192x192_S1x192 k (1 : Fin 2) 1
    have hm : ch.val % 192 = ch.val := Nat.mod_eq_of_lt ch.isLt
    constructor
    · intro h
      rw [h] at e0 e1
      funext a; fin_cases a
      · exact Fin.ext e0.symm
      · exact Fin.ext (e1.symm.trans hm)
      · rfl
    · intro h
      funext a; fin_cases a
      · exact Fin.ext (e0.trans (by rw [h]; rfl))
      · exact Fin.ext (e1.trans (by rw [h]; exact hm.symm))
  refine (Finset.card_bij (fun j _ => ix3 (0 : Fin 1) ch j) ?_ ?_ ?_).symm
  · intro j hj
    exact Finset.mem_filter.2 ⟨Finset.mem_filter.2 ⟨Finset.mem_univ _, (hd _).2 rfl⟩, (Finset.mem_filter.1 hj).2⟩
  · intro j _ j' _ h
    exact congrFun h (2 : Fin 3)
  · intro k hk
    have h1 := (hd k).1 (Finset.mem_filter.1 (Finset.mem_filter.1 hk).1).2
    exact ⟨k 2, Finset.mem_filter.2 ⟨Finset.mem_univ _, (congrArg src h1).symm.trans (Finset.mem_filter.1 hk).2⟩, h1.symm⟩

/-- The maxima laid along the last axis. -/
theorem along_last (v : FVec Ideal S1x192 .f32) (ch j : Fin 192) :
    broadcastTo S1x192x192 (shapeCast S1x1x192 v shapeCasts_S1x192_S1x1x192) broadcasts_S1x1x192_S1x192x192 (ix3 (0 : Fin 1) ch j) = v (ixC j.val) := by
  rw [broadcastTo_apply _ _ _ (ix3 (0 : Fin 1) (0 : Fin 1) j) (by intro a; fin_cases a <;> rfl)]
  refine shapeCast_apply _ _ _ _ ?_
  rw [Shape.rowMajor_val_two, Shape.rowMajor_val_three]
  show 0 * 192 + j.val % 192 = (0 * 1 + 0) * 192 + j.val
  omega

/-- The maxima laid along the middle axis. -/
theorem along_middle (v : FVec Ideal S1x192 .f32) (ch j : Fin 192) :
    broadcastTo S1x192x192 (shapeCast S1x192x1 v shapeCasts_S1x192_S1x192x1) broadcasts_S1x192x1_S1x192x192 (ix3 (0 : Fin 1) ch j) = v (ixC ch.val) := by
  rw [broadcastTo_apply _ _ _ (ix3 (0 : Fin 1) ch (0 : Fin 1)) (by intro a; fin_cases a <;> rfl)]
  refine shapeCast_apply _ _ _ _ ?_
  rw [Shape.rowMajor_val_two, Shape.rowMajor_val_three]
  show 0 * 192 + ch.val % 192 = (0 * 192 + ch.val) * 1 + 0
  omega

/-- The mark's bit, from the bits it is made of. -/
theorem bits_iff (p q r : Bool) : IntOp.ori (BitVec.ofBool p) (IntOp.andi (BitVec.ofBool q) (BitVec.ofBool r)) = 1#1 ↔ p = true ∨ (q = true ∧ r = true) := by
  revert p q r; decide

/-- The mark of one pair of channels: greater, or equal and with a lesser index. -/
theorem mark_iff (A B : FVec Ideal S1x192x192 .f32) (x y : IVec S1x192x192 32) (k : S1x192x192.Idx) :
    ori (cmpf .ogt A B) (andi (cmpf .oeq A B) (cmpi .slt x y)) k = 1#1 ↔ B k < A k ∨ (A k = B k ∧ (x k).slt (y k) = true) := by
  have e : ori (cmpf .ogt A B) (andi (cmpf .oeq A B) (cmpi .slt x y)) k
      = IntOp.ori (BitVec.ofBool (decide (B k < A k))) (IntOp.andi (BitVec.ofBool (decide (A k = B k))) (BitVec.ofBool ((x k).slt (y k)))) := rfl
  rw [e, bits_iff]
  simp only [decide_eq_true_eq]

/-- The kernel's count of the channels ahead. -/
theorem rankV_eq (X : XT Ideal) (b : Fin 8) (ch : Fin 192) : rankV X b.val (ixC ch.val) = BitVec.ofNat 32 (rank (top X b) ch) := by
  unfold rankV k0_pay8
  dsimp only
  refine (count_eq _ _ ch).trans (congrArg (fun S : Finset (Fin 192) => BitVec.ofNat 32 S.card) (Finset.filter_congr fun j _ => ?_))
  have hA := (along_last (maxV X b.val) ch j).trans (maxV_eq X b j)
  have hB := (along_middle (maxV X b.val) ch j).trans (maxV_eq X b ch)
  have h2 : iota .tc S1x192x192 32 [2] iota_S1x192x192_d2_w32 (ix3 (0 : Fin 1) ch j) = BitVec.ofNat 32 j.val := by
    show BitVec.ofNat 32 (0 * 192 + j.val) = _
    rw [Nat.zero_mul, Nat.zero_add]
  have h1 : iota .tc S1x192x192 32 [1] iota_S1x192x192_d1_w32 (ix3 (0 : Fin 1) ch j) = BitVec.ofNat 32 ch.val := by
    show BitVec.ofNat 32 (0 * 192 + ch.val) = _
    rw [Nat.zero_mul, Nat.zero_add]
  refine (mark_iff _ _ _ _ _).trans ?_
  rw [hA, hB, h2, h1, BitVec.slt_iff_toInt_lt]
  have n1 : ∀ t : Fin 192, (BitVec.ofNat 32 t.val).toInt = (t.val : ℤ) := fun t => by
    have := t.isLt
    rw [BitVec.toInt_eq_toNat_of_lt (by simp; omega), BitVec.toNat_ofNat, Nat.mod_eq_of_lt (by omega)]
  rw [n1, n1]
  unfold ahead
  rw [Fin.lt_def]
  simp

/-- Channel `ch` of image `b` is kept exactly when fewer than 96 channels are ahead of it. -/
theorem sel_iff (X : XT Ideal) (b : Fin 8) (ch : Fin 192) : sel X b.val ch.val = true ↔ rank (top X b) ch < 96 := by
  have h := rank_le (top X b) ch
  unfold sel
  rw [rankV_eq, BitVec.slt_iff_toInt_lt, BitVec.toInt_eq_toNat_of_lt (by simp; omega), BitVec.toNat_ofNat, Nat.mod_eq_of_lt (by omega)]
  show ((rank (top X b) ch : ℕ) : ℤ) < 96 ↔ _
  omega

end Cert.Value

end
-- ==== Proof.Hand.Value.lean ====
/-
  The reference read at one element, over the extended reals: its maxima are the greatest elements of the channels, its
  top-96 picks the channels of rank below 96, its mask is one there and zero elsewhere, and the product is the
  kernel's result.
-/
module

public import proofs.«01_k».proof.Proof.Hand.Ranks
public import proofs.«01_k».proof.Proof.Gen.ReferenceIdeal.Run
public import Idealize.ShloMosaic.Lib.Routing.OpsPair
public import Idealize.ShloMosaic.Lib.Routing.OpsSet
public import Idealize.ShloMosaic.Lib.IdealHost

@[expose] public section

noncomputable section

namespace Cert.Value

open Cert.ReferenceIdeal Cert.ReferenceIdeal.Gen
open Idealize.ShloMosaic Idealize.ShloMosaic.TcCoe
open Idealize.ShloMosaic.ValueIdx Idealize.ShloMosaic.Routing
open Cert.Kernel.Hand (XT resV sel zeroE)

/-- The reference's maxima of the channels. -/
def refMax (X : XT Ideal) : FVec Ideal S8x192 .f32 :=
  Host.reduce FloatOps.maximumf (shapeCast S8x192x50176 X shapeCasts_S8x192x224x224_S8x192x50176) (constant S_ .f32 0xFF800000#32) reducesTo_S8x192x50176_S8x192_d2 h_S_

/-- The reference's indices of the 96 channels with the greatest maxima. -/
def refTop (X : XT Ideal) : IVec S8x96 32 := (Host.topK S8x96 1 (FloatOps.cmpfTotal (F := Ideal) (φ := .f32) .gt) (refMax X) sliceFits_S8x192_S8x96).2

/-- The images' numbers, as a column. -/
def refImg : IVec S8x1 32 := broadcastInDim S8x1 ![0] bcast_S8_S8x1_0 (iotaInDim S8 32 0)

/-- The images' numbers, a negative one moved up by 8. -/
def refRow : IVec S8x96 32 :=
  broadcastInDim S8x96 ![0, 1] bcast_S8x1_S8x96_0_1 (select (cmpi .slt refImg (broadcastInDim S8x1 ![] bcast_S_S8x1 (constantI S_ 32 0#32))) (addi refImg (broadcastInDim S8x1 ![] bcast_S_S8x1 (constantI S_ 32 8#32))) refImg)

/-- The channels' numbers, a negative one moved up by 192. -/
def refCol (X : XT Ideal) : IVec S8x96 32 :=
  select (cmpi .slt (refTop X) (broadcastInDim S8x96 ![] bcast_S_S8x96 (constantI S_ 32 0#32))) (addi (refTop X) (broadcastInDim S8x96 ![] bcast_S_S8x96 (constantI S_ 32 192#32))) (refTop X)

/-- The pairs of image and channel at which the reference writes ones. -/
def refPairs (X : XT Ideal) : IVec S8x96x2 32 :=
  concatenate S8x96x2 2 [⟨S8x96x1, broadcastInDim S8x96x1 ![0, 1] bcast_S8x96_S8x96x1_0_1 refRow⟩, ⟨S8x96x1, broadcastInDim S8x96x1 ![0, 1] bcast_S8x96_S8x96x1_0_1 (refCol X)⟩] concatenates_S8x96x1_S8x96x1_S8x96x2_d2

/-- The reference's mask of the channels. -/
def refMask (X : XT Ideal) : FVec Ideal S8x192 .f32 :=
  Host.scatter scatter_S8x192_S8x96x2_S8x96_n_01_01_2 (fun _ b => b) (broadcastInDim S8x192 ![] bcast_S_S8x192 (constant S_ .f32 0x00000000#32)) (refPairs X)
    (broadcastInDim S8x96 ![] bcast_S_S8x96 (constant S_ .f32 0x3F800000#32))

/-- The reference's result. -/
def refOut (X : XT Ideal) : FVec Ideal S8x192x224x224 .f32 :=
  mulf (shapeCast S8x192x224x224 (broadcastInDim S8x192x50176 ![0, 1, 2] bcast_S8x192x1_S8x192x50176_0_1_2 (broadcastInDim S8x192x1 ![0, 1] bcast_S8x192_S8x192x1_0_1 (refMask X)))
    shapeCasts_S8x192x50176_S8x192x224x224) X

/-- The reference's maximum of a channel. -/
theorem refMax_eq (X : XT Ideal) (b : Fin 8) (ch : Fin 192) : refMax X (ix2 b ch) = top X b ch := by
  unfold refMax
  refine ((Host.reduce_eq_fold _ _ _ _ _ _).trans (fold_sup _ _)).trans ?_
  have hd : ∀ k : S8x192x50176.Idx, (reducesTo_S8x192x50176_S8x192_d2.drop k = ix2 b ch) ↔ (k 0).val = b.val ∧ (k 1).val = ch.val := fun k => by
    have e0 := Shape.ReducesTo.drop_apply_val_of_eq reducesTo_S8x192x50176_S8x192_d2 k (0 : Fin 2) 0
    have e1 := Shape.ReducesTo.drop_apply_val_of_eq reducesTo_S8x192x50176_S8x192_d2 k (1 : Fin 2) 1
    constructor
    · intro h
      rw [h] at e0 e1
      exact ⟨e0.symm, e1.symm⟩
    · rintro ⟨h0, h1⟩
      funext a; fin_cases a
      · exact Fin.ext (e0.trans h0)
      · exact Fin.ext (e1.trans h1)
  have hx : ∀ (k : S8x192x50176.Idx) (p q : Fin 224), (k 0).val = b.val → (k 1).val = ch.val → (k 2).val = p.val * 224 + q.val →
      shapeCast S8x192x50176 X shapeCasts_S8x192x224x224_S8x192x50176 k = X (ix4 b ch p q) := fun k p q h0 h1 h2 => by
    refine shapeCast_apply _ _ _ _ ?_
    rw [Shape.rowMajor_val_four, Shape.rowMajor_val_three]
    show ((b.val * 192 + ch.val) * 224 + p.val) * 224 + q.val = ((k 0).val * 192 + (k 1).val) * 50176 + (k 2).val
    rw [h0, h1, h2]; ring
  refine le_antisymm (Finset.sup_le fun k hk => ?_) (Finset.sup_le fun p _ => ?_)
  · obtain ⟨h0, h1⟩ := (hd k).1 (Finset.mem_filter.1 hk).2
    have hk2 : (k 2).val < 50176 := (k 2).isLt
    have hp : (k 2).val / 224 < 224 := by omega
    have hq : (k 2).val % 224 < 224 := by omega
    rw [hx k ⟨_, hp⟩ ⟨_, hq⟩ h0 h1 (by show (k 2).val = (k 2).val / 224 * 224 + (k 2).val % 224; omega)]
    exact Finset.le_sup (f := fun p : Fin 224 × Fin 224 => X (ix4 b ch p.1 p.2)) (Finset.mem_univ ((⟨_, hp⟩, ⟨_, hq⟩) : Fin 224 × Fin 224))
  · have h2 : p.1.val * 224 + p.2.val < 50176 := by have := p.1.isLt; have := p.2.isLt; omega
    refine le_of_eq_of_le (hx (ix3 b ch ⟨_, h2⟩) p.1 p.2 rfl rfl rfl).symm (Finset.le_sup (Finset.mem_filter.2 ⟨Finset.mem_univ _, (hd _).2 ⟨rfl, rfl⟩⟩))

/-- The indices of a top-k of the rows of a matrix: the `r`-th in row `a` is the position that comes `r`-th. -/
theorem topK_at {α : Type} {A B K : ℕ} (gt : α → α → BitVec 1) (x : (⟨2, ![A, B]⟩ : Shape).Idx → α) (h : (⟨2, ![A, B]⟩ : Shape).Slices (fun _ => 0) ⟨2, ![A, K]⟩)
    (a : Fin A) (r : Fin K) (hr : r.val < B) :
    (Host.topK ⟨2, ![A, K]⟩ 1 gt x h).2 (ix2 a r) = BitVec.ofNat 32 (sortedFrom (fun k k' : Fin B => gt (x (ix2 a k)) (x (ix2 a k')) == 1#1) ⟨r.val, hr⟩).val := by
  have hx : ∀ k : Fin B, (ix2 a (⟨r.val, hr⟩ : Fin B) : (⟨2, ![A, B]⟩ : Shape).Idx).along (1 : Fin 2) k = ix2 a k := fun k => by
    funext c; fin_cases c <;> rfl
  have hs : (fun c => ⟨0 + (ix2 a r (c.cast h.1.symm)).val, Nat.lt_of_lt_of_le (Nat.add_lt_add_left (ix2 a r _).isLt _) (h.2 c)⟩ : (⟨2, ![A, B]⟩ : Shape).Idx)
      = ix2 a (⟨r.val, hr⟩ : Fin B) := by
    funext c; fin_cases c <;> exact Fin.ext (Nat.zero_add _)
  have h1 : 1 < (⟨2, ![A, B]⟩ : Shape).rank := Nat.one_lt_two
  unfold Host.topK extractStridedSlice
  dsimp only
  rw [hs]
  unfold Host.sort2
  rw [dif_pos h1]
  simp only [dif_pos h1]
  show BitVec.ofNat 32 (sortedFrom (fun k k' : Fin B => gt (x ((ix2 a (⟨r.val, hr⟩ : Fin B) : (⟨2, ![A, B]⟩ : Shape).Idx).along (1 : Fin 2) k))
    (x ((ix2 a (⟨r.val, hr⟩ : Fin B) : (⟨2, ![A, B]⟩ : Shape).Idx).along (1 : Fin 2) k')) == 1#1) ⟨r.val, hr⟩).val = _
  simp only [hx]

/-- The reference's `r`-th index is the channel that comes `r`-th by its maximum. -/
theorem refTop_eq (X : XT Ideal) (b : Fin 8) (r : Fin 96) :
    refTop X (ix2 b r) = BitVec.ofNat 32 (sortedFrom (more (top X b)) (⟨r.val, by have := r.isLt; omega⟩ : Fin 192)).val := by
  have hf : (fun k k' : Fin 192 => FloatOps.cmpfTotal (F := Ideal) (φ := .f32) .gt (refMax X (ix2 b k)) (refMax X (ix2 b k')) == 1#1) = more (top X b) := by
    funext k k'
    rw [refMax_eq, refMax_eq]
    show (BitVec.ofBool (decide (top X b k' < top X b k)) == 1#1) = decide (top X b k' < top X b k)
    cases decide (top X b k' < top X b k) <;> rfl
  unfold refTop
  refine (topK_at _ (refMax X) _ b r (by have := r.isLt; omega)).trans ?_
  rw [hf]

/-- A small word is its number. -/
theorem word_int (n : ℕ) (h : n < 1000) : (BitVec.ofNat 32 n).toInt = (n : ℤ) := by
  rw [BitVec.toInt_eq_toNat_of_lt (by simp; omega), BitVec.toNat_ofNat, Nat.mod_eq_of_lt (by omega)]

/-- The wrap of a small word leaves it. -/
theorem wrap_small (n : ℕ) (h : n < 1000) (a : BitVec 32) : Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; omega)

/-- The image of every pair is its row. -/
theorem refRow_eq (b : Fin 8) (r : Fin 96) : refRow (ix2 b r) = BitVec.ofNat 32 b.val := by
  have hb := b.isLt
  have hi : refImg (ix2 b (0 : Fin 1)) = BitVec.ofNat 32 b.val := by
    unfold refImg
    rw [broadcastInDim_apply _ _ _ _ (ix1 b) (by intro a; fin_cases a; rfl)]
    rfl
  unfold refRow
  rw [broadcastInDim_apply _ _ _ _ (ix2 b (0 : Fin 1)) (by intro a; fin_cases a <;> rfl)]
  show Scalar.select (IntOp.cmpi .slt (refImg (ix2 b (0 : Fin 1))) 0#32) _ (refImg (ix2 b (0 : Fin 1))) = _
  rw [hi]
  exact wrap_small _ (by omega) _

/-- The channel of every pair is the index picked. -/
theorem refCol_eq (X : XT Ideal) (b : Fin 8) (r : Fin 96) :
    refCol X (ix2 b r) = BitVec.ofNat 32 (sortedFrom (more (top X b)) (⟨r.val, by have := r.isLt; omega⟩ : Fin 192)).val := by
  unfold refCol
  show Scalar.select (IntOp.cmpi .slt (refTop X (ix2 b r)) 0#32) _ (refTop X (ix2 b r)) = _
  rw [refTop_eq]
  exact wrap_small _ (by omega) _

/-- The pairs, image first. -/
theorem refPairs_fst (X : XT Ideal) (b : Fin 8) (r : Fin 96) : refPairs X (ix3 b r (0 : Fin 2)) = BitVec.ofNat 32 b.val := by
  unfold refPairs
  refine (concatenate_pair_apply_left (t := S8x96x2) (s₁ := S8x96x1) (s₂ := S8x96x1) 2 _ _ _ (ix3 b r (0 : Fin 2)) rfl (ix3 b r (0 : Fin 1)) (by intro a; fin_cases a <;> rfl)).trans ?_
  rw [broadcastInDim_apply _ _ _ _ (ix2 b r) (by intro a; fin_cases a <;> rfl), refRow_eq]

/-- The pairs, channel second. -/
theorem refPairs_snd (X : XT Ideal) (b : Fin 8) (r : Fin 96) :
    refPairs X (ix3 b r (1 : Fin 2)) = BitVec.ofNat 32 (sortedFrom (more (top X b)) (⟨r.val, by have := r.isLt; omega⟩ : Fin 192)).val := by
  unfold refPairs
  refine (concatenate_pair_apply_right (t := S8x96x2) (s₁ := S8x96x1) (s₂ := S8x96x1) 2 _ _ _ (ix3 b r (1 : Fin 2)) rfl rfl (ix3 b r (0 : Fin 1)) (by intro a ha; fin_cases a <;> first | rfl | exact absurd rfl ha) rfl).trans ?_
  rw [broadcastInDim_apply _ _ _ _ (ix2 b r) (by intro a; fin_cases a <;> rfl), refCol_eq]

/-- The mask is one on the channels of rank below 96 and zero on the others. -/
theorem refMask_eq (X : XT Ideal) (b : Fin 8) (ch : Fin 192) : refMask X (ix2 b ch) = if rank (top X b) ch < 96 then (1 : EReal) else 0 := by
  have hl : ∀ (a : Fin 8) (r : Fin 96), scatter_S8x192_S8x96x2_S8x96_n_01_01_2.resultIdx? (ix2 a r) (refPairs X) = some (ix2 b ch)
      ↔ a = b ∧ sortedFrom (more (top X a)) (⟨r.val, by have := r.isLt; omega⟩ : Fin 192) = ch := fun a r => by
    refine (scatter_lands2 scatter_S8x192_S8x96x2_S8x96_n_01_01_2 rfl rfl rfl (refPairs X) a r b ch).trans ?_
    rw [refPairs_fst, refPairs_snd, word_int _ (by omega), word_int _ (by omega)]
    rw [Fin.ext_iff, Fin.ext_iff]
    omega
  have hk : ∀ k : S8x96.Idx, k = ix2 (k 0) (k 1) := fun k => by funext a; fin_cases a <;> rfl
  unfold refMask
  by_cases h : rank (top X b) ch < 96
  · rw [if_pos h]
    obtain ⟨r, hr, hs⟩ := (first_iff (top X b) 96 ch).2 h
    exact scatter_set_hit _ _ _ _ _ _ (fun k _ => Ideal.ofBits_one_f32) (ix2 b (⟨r.val, hr⟩ : Fin 96)) ((hl _ _).2 ⟨rfl, hs⟩)
  · rw [if_neg h]
    refine (scatter_set_miss _ _ _ _ _ fun k e => h ?_).trans Ideal.ofBits_zero_f32
    rw [hk k] at e
    obtain ⟨ha, hs⟩ := (hl _ _).1 e
    exact (first_iff (top X b) 96 ch).1 ⟨⟨(k 1).val, by have : (k 1).val < 96 := (k 1).isLt; omega⟩, (k 1).isLt, by rw [← ha]; exact hs⟩

/-- The mask laid over the elements. -/
theorem refSpread_eq (X : XT Ideal) (b : Fin 8) (ch : Fin 192) (p q : Fin 224) :
    shapeCast S8x192x224x224 (broadcastInDim S8x192x50176 ![0, 1, 2] bcast_S8x192x1_S8x192x50176_0_1_2 (broadcastInDim S8x192x1 ![0, 1] bcast_S8x192_S8x192x1_0_1 (refMask X)))
      shapeCasts_S8x192x50176_S8x192x224x224 (ix4 b ch p q) = refMask X (ix2 b ch) := by
  have hp := p.isLt
  have hq := q.isLt
  refine (shapeCast_apply _ _ _ (ix3 b ch (⟨p.val * 224 + q.val, by omega⟩ : Fin 50176)) ?_).trans ?_
  · rw [Shape.rowMajor_val_four, Shape.rowMajor_val_three]
    show (b.val * 192 + ch.val) * 50176 + (p.val * 224 + q.val) = ((b.val * 192 + ch.val) * 224 + p.val) * 224 + q.val
    ring
  · refine (broadcastInDim_apply _ _ _ _ (ix3 b ch (0 : Fin 1)) (by intro a; fin_cases a <;> rfl)).trans ?_
    exact broadcastInDim_apply _ _ _ _ (ix2 b ch) (by intro a; fin_cases a <;> rfl)

/-- The product at an element. -/
theorem mulf_at {s : Shape} (x y : FVec Ideal s .f32) (j : s.Idx) : mulf x y j = (x j : EReal) * (y j : EReal) := rfl

/-- The zero the kernel stores. -/
theorem zero_at : (zeroE : Elt Ideal .f32) = (0 : EReal) := Eq.trans (b := Ideal.ofBits .f32 0x00000000#32) rfl Ideal.ofBits_zero_f32

/-- The kernel's result at an element. -/
theorem resV_at (X : XT Ideal) (b : Fin 8) (ch : Fin 192) (p q : Fin 224) :
    resV (F := Ideal) X (ix4 b ch p q) = if sel X b.val ch.val then X (ix4 b ch p q) else zeroE := rfl

/-- Times one or zero, as a choice. -/
theorem choose_mul (c : Prop) [Decidable c] (s : Bool) (h : s = true ↔ c) (x : EReal) : (if c then (1 : EReal) else 0) * x = if s then x else 0 := by
  by_cases hc : c
  · rw [if_pos hc, if_pos (h.2 hc), one_mul]
  · rw [if_neg hc, if_neg (fun e => hc (h.1 e)), zero_mul]

/-- The reference's result is the kernel's, at one element. -/
theorem refOut_at (X : XT Ideal) (b : Fin 8) (ch : Fin 192) (p q : Fin 224) : refOut X (ix4 b ch p q) = resV (F := Ideal) X (ix4 b ch p q) := by
  unfold refOut
  rw [mulf_at, refSpread_eq, refMask_eq, resV_at, zero_at]
  exact choose_mul _ _ (sel_iff X b ch) _

/-- The reference's result is the kernel's. -/
theorem refOut_eq (X : XT Ideal) : refOut X = resV (F := Ideal) X := by
  funext j
  have hj : j = ix4 (j 0) (j 1) (j 2) (j 3) := by funext a; fin_cases a <;> rfl
  exact (congrArg (refOut X) hj).trans ((refOut_at X (j 0) (j 1) (j 2) (j 3)).trans (congrArg (resV (F := Ideal) X) hj).symm)

end Cert.Value

end
-- ==== Proof.lean ====
/-
  The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Hand.Ideal
public import proofs.«01_k».proof.Proof.Hand.Value

@[expose] public section

noncomputable section

namespace Cert.Proof

open Idealize.ShloMosaic Idealize.SL.Sem

/-- The kernel's run, on the machine's numbers: it ends, the argument is kept, every semaphore is back at zero. -/
theorem frame_kernel : Cert.quiescent_Kernel := fun m ρ _ => Cert.Kernel.Hand.frame (F := Bits) m ρ

/-- The same of the idealised kernel, on the extended reals. -/
theorem frame_ideal : Cert.quiescent_KernelIdeal := fun m ρ _ =>
  (θ_run _ _ _).mono (fun _ h => ⟨fun c => (h.1 c).1, h.2⟩) (Cert.KernelIdeal.Hand.run_value (F := Ideal) m ρ)

/-- The reference's run: host operations only, none of which writes the argument; it has no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The reference's run leaves the kernel's result of its argument. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v24)
          = Cert.Kernel.Hand.resV (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run _ _ _).mono (fun _ h c => ⟨(h c).1.trans (Cert.Value.refOut_eq _), (h c).2⟩) (Cert.ReferenceIdeal.Value.run (F := Ideal) m ρ)

/-- The idealised kernel and the idealised reference, from the same argument, leave the same result. -/
theorem algebraic : Cert.algebraic_KernelIdeal_ReferenceIdeal := fun m g m' g' _ hagree =>
  ⟨fun c => Cert.Kernel.Hand.resV (F := Ideal) (m ((c.tc : Thread Cert.KernelIdeal.nD Cert.KernelIdeal.τ).loc Cert.KernelIdeal.main_arg0)),
    (θ_run _ _ _).mono (fun _ h c => ⟨(h.1 c).2, (h.1 c).1⟩) (Cert.KernelIdeal.Hand.run_value (F := Ideal) m g),
    (θ_run _ _ _).mono (fun _ h c => ⟨(h c).1.trans (congrArg (Cert.Kernel.Hand.resV (F := Ideal)) (hagree c)), (h c).2⟩) (run_reference m' g')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
